-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  IdealRules.named_const.Statement Cert.KernelIdeal.κ "inv_d" .f32 0x39924925#32 ((1 / 3584 : ℝ) : EReal)

def preserves_Reference_ReferenceIdeal : Prop :=
  IdealRules.named_const.Statement Cert.ReferenceIdeal.κ "ln_2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hReference : Cert.Reference.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
-- ==== Pre_finite.lean ====
abbrev S2x4096x3584 : Shape := ⟨3, ![2, 4096, 3584]⟩
abbrev S2x3584 : Shape := ⟨2, ![2, 3584]⟩
abbrev S2x512 : Shape := ⟨2, ![2, 512]⟩
abbrev S3584x512 : Shape := ⟨2, ![3584, 512]⟩
abbrev S512 : Shape := ⟨1, ![512]⟩
abbrev S_ : Shape := ⟨0, ![]⟩

class Facts : Prop where
  bitsLt_bf16_f32 : FTy.bits .bf16 < FTy.bits .f32
  bcast_S_S2x3584 : S_.BroadcastsInDim S2x3584 (![] : Fin 0 → Fin S2x3584.rank)
  reducesTo_S2x3584_S_d0_1 : S2x3584.ReducesTo [0, 1] S_
  h_S_ : 0 < S_.numel

variable [Facts]

def fn {F : FTy → Type} [FloatOps F] (main_arg0 : FVec F S2x4096x3584 .bf16) (main_arg1 : FVec F S2x3584 .bf16) (main_arg2 : FVec F S2x3584 .bf16) (main_arg3 : FVec F S2x512 .bf16) (main_arg4 : FVec F S3584x512 .fp8e4m3) (main_arg5 : FVec F S512 .f32) (main_arg6 : FVec F S512 .bf16) : IVec S_ 1 :=
  let main_v0 : FVec F S2x3584 .f32 := (extf .f32 · bitsLt_bf16_f32) main_arg1
  let main_v1 : FVec F S2x3584 .f32 := Host.absf main_v0
  let main_cst : FVec F S_ .f32 := constant S_ .f32 0x7F7F0000#32
  let main_v2 : FVec F S2x3584 .f32 := broadcastInDim S2x3584 ![] bcast_S_S2x3584 main_cst
  let main_v3 : IVec S2x3584 1 := cmpf .ole main_v1 main_v2
  let main_c : IVec S_ 1 := constantI S_ 1 1#1
  let main_v4 : IVec S_ 1 := (fun x v => Host.reduce IntOp.andi x v reducesTo_S2x3584_S_d0_1 h_S_) main_v3 main_c
  let main_v5 : FVec F S2x3584 .f32 := (extf .f32 · bitsLt_bf16_f32) main_arg2
  let main_v6 : FVec F S2x3584 .f32 := Host.absf main_v5
  let main_cst_0 : FVec F S_ .f32 := constant S_ .f32 0x7F7F0000#32
  let main_v7 : FVec F S2x3584 .f32 := broadcastInDim S2x3584 ![] bcast_S_S2x3584 main_cst_0
  let main_v8 : IVec S2x3584 1 := cmpf .ole main_v6 main_v7
  let main_c_1 : IVec S_ 1 := constantI S_ 1 1#1
  let main_v9 : IVec S_ 1 := (fun x v => Host.reduce IntOp.andi x v reducesTo_S2x3584_S_d0_1 h_S_) main_v8 main_c_1
  let main_v10 : IVec S_ 1 := andi main_v4 main_v9
  main_v10
-- ==== Kernel.lean ====
abbrev S2x4096x3584 : Shape := ⟨3, ![2, 4096, 3584]⟩
abbrev S2x3584 : Shape := ⟨2, ![2, 3584]⟩
abbrev S2x512 : Shape := ⟨2, ![2, 512]⟩
abbrev S3584x512 : Shape := ⟨2, ![3584, 512]⟩
abbrev S512 : Shape := ⟨1, ![512]⟩
abbrev S2x1x3584 : Shape := ⟨3, ![2, 1, 3584]⟩
abbrev S2x1x512 : Shape := ⟨3, ![2, 1, 512]⟩
abbrev S1x512 : Shape := ⟨2, ![1, 512]⟩
abbrev S2x4096x512 : Shape := ⟨3, ![2, 4096, 512]⟩
abbrev S2x4096x1 : Shape := ⟨3, ![2, 4096, 1]⟩
abbrev S1x256x3584 : Shape := ⟨3, ![1, 256, 3584]⟩
abbrev S1x1x3584 : Shape := ⟨3, ![1, 1, 3584]⟩
abbrev S1x1x512 : Shape := ⟨3, ![1, 1, 512]⟩
abbrev S1x256x512 : Shape := ⟨3, ![1, 256, 512]⟩
abbrev S1x256x1 : Shape := ⟨3, ![1, 256, 1]⟩
abbrev S256x3584 : Shape := ⟨2, ![256, 3584]⟩
abbrev S1x16x128 : Shape := ⟨3, ![1, 16, 128]⟩
abbrev S16x128 : Shape := ⟨2, ![16, 128]⟩
abbrev S16 : Shape := ⟨1, ![16]⟩
abbrev S16x1 : Shape := ⟨2, ![16, 1]⟩
abbrev S1x1x128 : Shape := ⟨3, ![1, 1, 128]⟩
abbrev S1x128 : Shape := ⟨2, ![1, 128]⟩
abbrev S16x256 : Shape := ⟨2, ![16, 256]⟩
abbrev S1x16x1 : Shape := ⟨3, ![1, 16, 1]⟩
abbrev S256x1 : Shape := ⟨2, ![256, 1]⟩
abbrev S256x512 : Shape := ⟨2, ![256, 512]⟩

abbrev nBuf : Space → Nat
  | .hbm => 15
  | .vmem => 18
  | .smem => 0
  | _ => 0

abbrev bufTy : (tb : Table) → Fin (tcTables nBuf tb) → BufTy
  | .hbm, ⟨0, _⟩ => ⟨S2x4096x3584, .bf16⟩
  | .hbm, ⟨1, _⟩ => ⟨S2x3584, .bf16⟩
  | .hbm, ⟨2, _⟩ => ⟨S2x3584, .bf16⟩
  | .hbm, ⟨3, _⟩ => ⟨S2x512, .bf16⟩
  | .hbm, ⟨4, _⟩ => ⟨S3584x512, .fp8e4m3⟩
  | .hbm, ⟨5, _⟩ => ⟨S512, .f32⟩
  | .hbm, ⟨6, _⟩ => ⟨S512, .bf16⟩
  | .hbm, ⟨7, _⟩ => ⟨S2x1x3584, .bf16⟩
  | .hbm, ⟨8, _⟩ => ⟨S2x1x3584, .bf16⟩
  | .hbm, ⟨9, _⟩ => ⟨S2x1x512, .bf16⟩
  | .hbm, ⟨10, _⟩ => ⟨S1x512, .f32⟩
  | .hbm, ⟨11, _⟩ => ⟨S1x512, .bf16⟩
  | .hbm, ⟨12, _⟩ => ⟨S2x4096x512, .bf16⟩
  | .hbm, ⟨13, _⟩ => ⟨S2x4096x3584, .fp8e4m3⟩
  | .hbm, ⟨14, _⟩ => ⟨S2x4096x1, .f32⟩
  | .local _ .vmem, ⟨0, _⟩ => ⟨S1x256x3584, .bf16⟩
  | .local _ .vmem, ⟨1, _⟩ => ⟨S1x256x3584, .bf16⟩
  | .local _ .vmem, ⟨2, _⟩ => ⟨S1x1x3584, .bf16⟩
  | .local _ .vmem, ⟨3, _⟩ => ⟨S1x1x3584, .bf16⟩
  | .local _ .vmem, ⟨4, _⟩ => ⟨S1x1x3584, .bf16⟩
  | .local _ .vmem, ⟨5, _⟩ => ⟨S1x1x3584, .bf16⟩
  | .local _ .vmem, ⟨6, _⟩ => ⟨S1x1x512, .bf16⟩
  | .local _ .vmem, ⟨7, _⟩ => ⟨S1x1x512, .bf16⟩
  | .local _ .vmem, ⟨8, _⟩ => ⟨S3584x512, .fp8e4m3⟩
  | .local _ .vmem, ⟨9, _⟩ => ⟨S1x512, .f32⟩
  | .local _ .vmem, ⟨10, _⟩ => ⟨S1x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x3584, .fp8e4m3⟩
  | .local _ .vmem, ⟨14, _⟩ => ⟨S1x256x3584, .fp8e4m3⟩
  | .local _ .vmem, ⟨15, _⟩ => ⟨S1x256x1, .f32⟩
  | .local _ .vmem, ⟨16, _⟩ => ⟨S1x256x1, .f32⟩
  | .local _ .vmem, ⟨17, _⟩ => ⟨S256x3584, .f32⟩
  | _, _ => ⟨S2x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  v40
def k0_off1 (k0_t1 : Fin k0_t1_loop.trips) : Fin 3 → Nat :=
  let c0_26 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v42 : Index := Scalar.indexCast v41
  let c0_27 : Index := 0#32
  ![0, v42.toNat, 0]
def k0_off2 (k0_t1 : Fin k0_t1_loop.trips) : Fin 3 → Nat :=
  let c0_28 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v46 : Index := Scalar.indexCast v41
  let c128 : Index := 128#32
  ![0, v46.toNat, 128]
def k0_off3 (k0_t1 : Fin k0_t1_loop.trips) : Fin 3 → Nat :=
  let c0_29 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v51 : Index := Scalar.indexCast v41
  let c256 : Index := 256#32
  ![0, v51.toNat, 256]
def k0_off4 (k0_t1 : Fin k0_t1_loop.trips) : Fin 3 → Nat :=
  let c0_30 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v56 : Index := Scalar.indexCast v41
  let c384 : Index := 384#32
  ![0, v56.toNat, 384]
def k0_off5 (k0_t1 : Fin k0_t1_loop.trips) : Fin 3 → Nat :=
  let c0_31 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v61 : Index := Scalar.indexCast v41
  let c512 : Index := 512#32
  ![0, v61.toNat, 512]
def k0_off6 (k0_t1 : Fin k0_t1_loop.trips) : Fin 3 → Nat :=
  let c0_32 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v66 : Index := Scalar.indexCast v41
  let c640 : Index := 640#32
  ![0, v66.toNat, 640]
def k0_off7 (k0_t1 : Fin k0_t1_loop.trips) : Fin 3 → Nat :=
  let c0_33 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v71 : Index := Scalar.indexCast v41
  let c768 : Index := 768#32
  ![0, v71.toNat, 768]
def k0_off8 (k0_t1 : Fin k0_t1_loop.trips) : Fin 3 → Nat :=
  let c0_34 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v76 : Index := Scalar.indexCast v41
  let c896 : Index := 896#32
  ![0, v76.toNat, 896]
def k0_off9 (k0_t1 : Fin k0_t1_loop.trips) : Fin 3 → Nat :=
  let c0_35 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v81 : Index := Scalar.indexCast v41
  let c1024 : Index := 1024#32
  ![0, v81.toNat, 1024]
def k0_off10 (k0_t1 : Fin k0_t1_loop.trips) : Fin 3 → Nat :=
  let c0_36 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v86 : Index := Scalar.indexCast v41
  let c1152 : Index := 1152#32
  ![0, v86.toNat, 1152]
def k0_off11 (k0_t1 : Fin k0_t1_loop.trips) : Fin 3 → Nat :=
  let c0_37 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v91 : Index := Scalar.indexCast v41
  let c1280 : Index := 1280#32
  ![0, v91.toNat, 1280]
def k0_off12 (k0_t1 : Fin k0_t1_loop.trips) : Fin 3 → Nat :=
  let c0_38 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v96 : Index := Scalar.indexCast v41
  let c1408 : Index := 1408#32
  ![0, v96.toNat, 1408]
def k0_off13 (k0_t1 : Fin k0_t1_loop.trips) : Fin 3 → Nat :=
  let c0_39 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v101 : Index := Scalar.indexCast v41
  let c1536 : Index := 1536#32
  ![0, v101.toNat, 1536]
def k0_off14 (k0_t1 : Fin k0_t1_loop.trips) : Fin 3 → Nat :=
  let c0_40 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v106 : Index := Scalar.indexCast v41
  let c1664 : Index := 1664#32
  ![0, v106.toNat, 1664]
def k0_off15 (k0_t1 : Fin k0_t1_loop.trips) : Fin 3 → Nat :=
  let c0_41 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v111 : Index := Scalar.indexCast v41
  let c1792 : Index := 1792#32
  ![0, v111.toNat, 1792]
def k0_off16 (k0_t1 : Fin k0_t1_loop.trips) : Fin 3 → Nat :=
  let c0_42 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v116 : Index := Scalar.indexCast v41
  let c1920 : Index := 1920#32
  ![0, v116.toNat, 1920]
def k0_off17 (k0_t1 : Fin k0_t1_loop.trips) : Fin 3 → Nat :=
  let c0_43 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v121 : Index := Scalar.indexCast v41
  let c2048 : Index := 2048#32
  ![0, v121.toNat, 2048]
def k0_off18 (k0_t1 : Fin k0_t1_loop.trips) : Fin 3 → Nat :=
  let c0_44 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v126 : Index := Scalar.indexCast v41
  let c2176 : Index := 2176#32
  ![0, v126.toNat, 2176]
def k0_off19 (k0_t1 : Fin k0_t1_loop.trips) : Fin 3 → Nat :=
  let c0_45 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v131 : Index := Scalar.indexCast v41
  let c2304 : Index := 2304#32
  ![0, v131.toNat, 2304]
def k0_off20 (k0_t1 : Fin k0_t1_loop.trips) : Fin 3 → Nat :=
  let c0_46 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v136 : Index := Scalar.indexCast v41
  let c2432 : Index := 2432#32
  ![0, v136.toNat, 2432]
def k0_off21 (k0_t1 : Fin k0_t1_loop.trips) : Fin 3 → Nat :=
  let c0_47 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v141 : Index := Scalar.indexCast v41
  let c2560 : Index := 2560#32
  ![0, v141.toNat, 2560]
def k0_off22 (k0_t1 : Fin k0_t1_loop.trips) : Fin 3 → Nat :=
  let c0_48 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v146 : Index := Scalar.indexCast v41
  let c2688 : Index := 2688#32
  ![0, v146.toNat, 2688]
def k0_off23 (k0_t1 : Fin k0_t1_loop.trips) : Fin 3 → Nat :=
  let c0_49 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v151 : Index := Scalar.indexCast v41
  let c2816 : Index := 2816#32
  ![0, v151.toNat, 2816]
def k0_off24 (k0_t1 : Fin k0_t1_loop.trips) : Fin 3 → Nat :=
  let c0_50 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v156 : Index := Scalar.indexCast v41
  let c2944 : Index := 2944#32
  ![0, v156.toNat, 2944]
def k0_off25 (k0_t1 : Fin k0_t1_loop.trips) : Fin 3 → Nat :=
  let c0_51 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v161 : Index := Scalar.indexCast v41
  let c3072 : Index := 3072#32
  ![0, v161.toNat, 3072]
def k0_off26 (k0_t1 : Fin k0_t1_loop.trips) : Fin 3 → Nat :=
  let c0_52 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v166 : Index := Scalar.indexCast v41
  let c3200 : Index := 3200#32
  ![0, v166.toNat, 3200]
def k0_off27 (k0_t1 : Fin k0_t1_loop.trips) : Fin 3 → Nat :=
  let c0_53 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v171 : Index := Scalar.indexCast v41
  let c3328 : Index := 3328#32
  ![0, v171.toNat, 3328]
def k0_off28 (k0_t1 : Fin k0_t1_loop.trips) : Fin 3 → Nat :=
  let c0_54 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v176 : Index := Scalar.indexCast v41
  let c3456 : Index := 3456#32
  ![0, v176.toNat, 3456]
def k0_off29 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v435 : Index := Scalar.indexCast v41
  let c0_125 : Index := 0#32
  ![v435.toNat, 0]
def k0_off30 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v460 : Index := Scalar.indexCast v41
  let c128_135 : Index := 128#32
  ![v460.toNat, 128]
def k0_off31 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v486 : Index := Scalar.indexCast v41
  let c256_145 : Index := 256#32
  ![v486.toNat, 256]
def k0_off32 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v512 : Index := Scalar.indexCast v41
  let c384_155 : Index := 384#32
  ![v512.toNat, 384]
def k0_off33 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v538 : Index := Scalar.indexCast v41
  let c512_165 : Index := 512#32
  ![v538.toNat, 512]
def k0_off34 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v564 : Index := Scalar.indexCast v41
  let c640_175 : Index := 640#32
  ![v564.toNat, 640]
def k0_off35 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v590 : Index := Scalar.indexCast v41
  let c768_185 : Index := 768#32
  ![v590.toNat, 768]
def k0_off36 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v616 : Index := Scalar.indexCast v41
  let c896_195 : Index := 896#32
  ![v616.toNat, 896]
def k0_off37 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v642 : Index := Scalar.indexCast v41
  let c1024_205 : Index := 1024#32
  ![v642.toNat, 1024]
def k0_off38 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v668 : Index := Scalar.indexCast v41
  let c1152_215 : Index := 1152#32
  ![v668.toNat, 1152]
def k0_off39 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v694 : Index := Scalar.indexCast v41
  let c1280_225 : Index := 1280#32
  ![v694.toNat, 1280]
def k0_off40 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v720 : Index := Scalar.indexCast v41
  let c1408_235 : Index := 1408#32
  ![v720.toNat, 1408]
def k0_off41 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v746 : Index := Scalar.indexCast v41
  let c1536_245 : Index := 1536#32
  ![v746.toNat, 1536]
def k0_off42 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v772 : Index := Scalar.indexCast v41
  let c1664_255 : Index := 1664#32
  ![v772.toNat, 1664]
def k0_off43 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v798 : Index := Scalar.indexCast v41
  let c1792_265 : Index := 1792#32
  ![v798.toNat, 1792]
def k0_off44 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v824 : Index := Scalar.indexCast v41
  let c1920_275 : Index := 1920#32
  ![v824.toNat, 1920]
def k0_off45 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v850 : Index := Scalar.indexCast v41
  let c2048_285 : Index := 2048#32
  ![v850.toNat, 2048]
def k0_off46 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v876 : Index := Scalar.indexCast v41
  let c2176_295 : Index := 2176#32
  ![v876.toNat, 2176]
def k0_off47 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v902 : Index := Scalar.indexCast v41
  let c2304_305 : Index := 2304#32
  ![v902.toNat, 2304]
def k0_off48 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v928 : Index := Scalar.indexCast v41
  let c2432_315 : Index := 2432#32
  ![v928.toNat, 2432]
def k0_off49 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v954 : Index := Scalar.indexCast v41
  let c2560_325 : Index := 2560#32
  ![v954.toNat, 2560]
def k0_off50 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v980 : Index := Scalar.indexCast v41
  let c2688_335 : Index := 2688#32
  ![v980.toNat, 2688]
def k0_off51 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v1006 : Index := Scalar.indexCast v41
  let c2816_345 : Index := 2816#32
  ![v1006.toNat, 2816]
def k0_off52 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v1032 : Index := Scalar.indexCast v41
  let c2944_355 : Index := 2944#32
  ![v1032.toNat, 2944]
def k0_off53 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v1058 : Index := Scalar.indexCast v41
  let c3072_365 : Index := 3072#32
  ![v1058.toNat, 3072]
def k0_off54 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v1084 : Index := Scalar.indexCast v41
  let c3200_375 : Index := 3200#32
  ![v1084.toNat, 3200]
def k0_off55 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v1110 : Index := Scalar.indexCast v41
  let c3328_385 : Index := 3328#32
  ![v1110.toNat, 3328]
def k0_off56 (k0_t1 : Fin k0_t1_loop.trips) : Fin 2 → Nat :=
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v1136 : Index := Scalar.indexCast v41
  let c3456_395 : Index := 3456#32
  ![v1136.toNat, 3456]
def k0_off57 (k0_t1 : Fin k0_t1_loop.trips) : Fin 3 → Nat :=
  let c0_405 : Index := 0#32
  let c0_i32_24 : BitVec 32 := 0#32
  let c0_i32 : BitVec 32 := 0#32
  let c1_i32 : BitVec 32 := 1#32
  let arg13 : BitVec 32 := Scf.iv c0_i32 c1_i32 k0_t1
  let c1_i32_23 : BitVec 32 := 1#32
  let v38 : BitVec 32 := Scalar.muli arg13 c1_i32_23
  let v39 : BitVec 32 := Scalar.addi c0_i32_24 v38
  let c16_i32_25 : BitVec 32 := 16#32
  let v40 : BitVec 32 := Scalar.muli v39 c16_i32_25
  let v41 : BitVec 32 := v40
  let v1170 : Index := Scalar.indexCast v41
  let c0_406 : Index := 0#32
  ![0, v1170.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3584x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x3584 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "inv_d" => some ((1 / 3584 : ℝ) : EReal)
  | _ => none
-- ==== ReferenceIdeal.lean ====
variable {F : FTy → Type} [FloatOps F] [Named F]
def κ : String → Option EReal := fun
  | "ln_2" => some ((Real.log 2 : ℝ) : EReal)
  | _ => none
-- ==== Reference.lean ====
abbrev S2x4096x3584 : Shape := ⟨3, ![2, 4096, 3584]⟩
abbrev S2x3584 : Shape := ⟨2, ![2, 3584]⟩
abbrev S2x512 : Shape := ⟨2, ![2, 512]⟩
abbrev S3584x512 : Shape := ⟨2, ![3584, 512]⟩
abbrev S512 : Shape := ⟨1, ![512]⟩
abbrev S2x4096x512 : Shape := ⟨3, ![2, 4096, 512]⟩
abbrev S2x4096x1 : Shape := ⟨3, ![2, 4096, 1]⟩
abbrev S2x4096 : Shape := ⟨2, ![2, 4096]⟩
abbrev S2x1x3584 : Shape := ⟨3, ![2, 1, 3584]⟩
abbrev S1x1x512 : Shape := ⟨3, ![1, 1, 512]⟩
abbrev S2x1x512 : Shape := ⟨3, ![2, 1, 512]⟩

abbrev nBuf : Space → Nat
  | .hbm => 10
  | .vmem => 10
  | .smem => 0
  | _ => 0

abbrev bufTy : (tb : Table) → Fin (tcTables nBuf tb) → BufTy
  | .hbm, ⟨0, _⟩ => ⟨S2x4096x3584, .bf16⟩
  | .hbm, ⟨1, _⟩ => ⟨S2x3584, .bf16⟩
  | .hbm, ⟨2, _⟩ => ⟨S2x3584, .bf16⟩
  | .hbm, ⟨3, _⟩ => ⟨S2x512, .bf16⟩
  | .hbm, ⟨4, _⟩ => ⟨S3584x512, .fp8e4m3⟩
  | .hbm, ⟨5, _⟩ => ⟨S512, .f32⟩
  | .hbm, ⟨6, _⟩ => ⟨S512, .bf16⟩
  | .hbm, ⟨7, _⟩ => ⟨S2x4096x512, .bf16⟩
  | .hbm, ⟨8, _⟩ => ⟨S2x4096x3584, .fp8e4m3⟩
  | .hbm, ⟨9, _⟩ => ⟨S2x4096x1, .f32⟩
  | .local _ .vmem, ⟨0, _⟩ => ⟨S2x4096x3584, .bf16⟩
  | .local _ .vmem, ⟨1, _⟩ => ⟨S2x3584, .bf16⟩
  | .local _ .vmem, ⟨2, _⟩ => ⟨S2x3584, .bf16⟩
  | .local _ .vmem, ⟨3, _⟩ => ⟨S2x512, .bf16⟩
  | .local _ .vmem, ⟨4, _⟩ => ⟨S3584x512, .fp8e4m3⟩
  | .local _ .vmem, ⟨5, _⟩ => ⟨S512, .f32⟩
  | .local _ .vmem, ⟨6, _⟩ => ⟨S512, .bf16⟩
  | .local _ .vmem, ⟨7, _⟩ => ⟨S2x4096x512, .bf16⟩
  | .local _ .vmem, ⟨8, _⟩ => ⟨S2x4096x3584, .fp8e4m3⟩
  | .local _ .vmem, ⟨9, _⟩ => ⟨S2x4096x1, .f32⟩
  | _, _ => ⟨S2x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x4096x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x4096x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x4096x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x4096x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Exponent.lean ====
/-
  THE ROW SCALE AS A POWER OF TWO. The kernel finds a row's exponent by counting, over the 256 patterns `k · 2²³`, the
  thresholds that its scaled maximum reaches, and writes the scale by placing that count in an exponent field. The
  reference takes the floor of a base-two logarithm and `2` to that power. This file proves that both are the same
  number, and that the kernel's reciprocal is the reference's power of the negated exponent.
-/
module

public import Idealize.ShloMosaic.Lib.IdealHost
public import Idealize.ShloMosaic.Lib.ValueIdx
public import Idealize.ShloMosaic.Lib.Tactic

@[expose] public section

set_option maxRecDepth 16384

noncomputable section

namespace Cert.Row

open Idealize.ShloMosaic

/-- The word whose exponent field is `k` and whose other fields are zero. -/
def stepBits (k : Fin 256) : BitVec 32 := IntOp.shli .vector (BitVec.ofNat 32 k.val) 23#32

/-- The threshold number `k`: what the word `stepBits k` denotes. -/
def step (k : Fin 256) : EReal := Ideal.ofBits .f32 (stepBits k)

/-- The number `1/448` as the kernel and the reference write it. -/
def c448 : EReal := Ideal.ofBits .f32 0x3B124925#32

/-- How many of the 256 thresholds `q` reaches, as the kernel counts them. -/
def count (q : EReal) : BitVec 32 :=
  Finset.univ.fold IntOp.addi 0#32 fun k : Fin 256 => Scalar.select (Ideal.cmp .olt q (step k)) 0#32 1#32

/-- The kernel's scale of a row whose largest magnitude is `a`. -/
def kScale (a : EReal) : EReal :=
  Ideal.ofBits .f32 (IntOp.shli .vector (IntOp.addi (Scalar.select (Ideal.cmp .oeq a 0) 0#32
    (IntOp.subi (IntOp.subi (count (a * c448)) 1#32) 126#32)) 127#32) 23#32)

/-- The reference's exponent of a row whose largest magnitude is `a`. -/
def rExp (a : EReal) : EReal :=
  Scalar.select (Ideal.cmp .oeq a 0) 0
    (max (Ideal.liftRound Int.floor (Ideal.div (Ideal.log (a * c448)) ((Real.log 2 : ℝ) : EReal)) + 1)
      (Ideal.ofBits .f32 0xC2FC0000#32))

/-- The fields of `stepBits k`: exponent `k`, no fraction, no sign. -/
theorem stepBits_fields : ∀ k : Fin 256, ((stepBits k).extractLsb' 23 8).toNat = k.val
    ∧ ((stepBits k).extractLsb' 0 23).toNat = 0 ∧ ((stepBits k).extractLsb' (8 + 23) 1 == 1#1) = (decide (256 ≤ k.val)) := by
  decide +kernel

/-- A finite word of exponent field `ex` (neither 0 nor 255), fraction field `fr` and clear sign bit denotes
    `(2²³ + fr) · 2^(ex - 150)`. -/
theorem ofBits_normal (b : BitVec 32) (ex fr : ℕ) (he : (b.extractLsb' 23 8).toNat = ex) (hf : (b.extractLsb' 0 23).toNat = fr)
    (hs : (b.extractLsb' (8 + 23) 1 == 1#1) = false) (h0 : ex ≠ 0) (h1 : ex ≠ 255) :
    Ideal.ofBits .f32 b = ((((2 : ℝ) ^ 23 + fr) * (2 : ℝ) ^ ((ex : ℤ) - 150) : ℝ) : EReal) := by
  have h : Ideal.ofBits .f32 b = Ideal.ieee 8 23 b := rfl
  rw [h, Ideal.ieee]
  simp only [hs, he, hf]
  rw [if_neg (by simpa using h1), if_neg h0]
  norm_num
  rw [sub_sub]
  norm_num

/-- A threshold other than the first and the last is a power of two. -/
theorem step_pow (k : Fin 256) (h0 : k.val ≠ 0) (h1 : k.val ≠ 255) : step k = (((2 : ℝ) ^ ((k.val : ℤ) - 127) : ℝ) : EReal) := by
  obtain ⟨e, f, s⟩ := stepBits_fields k
  have hs : ((stepBits k).extractLsb' (8 + 23) 1 == 1#1) = false := by rw [s]; simp
  rw [step, ofBits_normal _ _ _ e f hs h0 h1]
  refine congrArg (fun r : ℝ => (r : EReal)) ?_
  rw [show ((k.val : ℤ) - 127) = (23 : ℤ) + ((k.val : ℤ) - 150) by ring, zpow_add₀ (by norm_num : (2 : ℝ) ≠ 0)]
  norm_num

/-- The first threshold is zero. -/
theorem step_zero : step 0 = 0 := by
  rw [step, show stepBits 0 = 0x00000000#32 by decide +kernel]
  exact Ideal.ofBits_zero_f32

/-- The last threshold is infinite. -/
theorem step_top : step 255 = ⊤ := by
  rw [step, show stepBits 255 = 0x7F800000#32 by decide +kernel]
  have h : Ideal.ofBits .f32 0x7F800000#32 = Ideal.ieee 8 23 0x7F800000#32 := rfl
  rw [h, Ideal.ieee]
  simp

/-- A fold of word additions is the word of the sum of the numbers. -/
theorem fold_addi (s : Finset (Fin 256)) (f : Fin 256 → ℕ) :
    s.fold IntOp.addi 0#32 (fun k => BitVec.ofNat 32 (f k)) = BitVec.ofNat 32 (∑ k ∈ s, f k) := by
  classical
  induction s using Finset.induction_on with
  | empty => rfl
  | insert a s ha ih =>
    rw [Finset.fold_insert ha, ih, Finset.sum_insert ha]
    show BitVec.ofNat 32 (f a) + BitVec.ofNat 32 (∑ k ∈ s, f k) = _
    rw [← BitVec.ofNat_add]

/-- When `q` reaches exactly the thresholds up to `n`, the count is `n + 1`. -/
theorem count_eq (q : EReal) (n : ℕ) (hn : n < 256) (h : ∀ k : Fin 256, q < step k ↔ n < k.val) :
    count q = BitVec.ofNat 32 (n + 1) := by
  unfold count
  have e : (fun k : Fin 256 => Scalar.select (Ideal.cmp .olt q (step k)) 0#32 1#32)
      = fun k : Fin 256 => BitVec.ofNat 32 (if k.val ≤ n then 1 else 0) := by
    funext k
    by_cases hk : k.val ≤ n
    · have : ¬ q < step k := by rw [h]; omega
      simp [Ideal.cmp, Scalar.select, this, hk]
    · have : q < step k := by rw [h]; omega
      simp [Ideal.cmp, Scalar.select, this, hk]
  rw [e, fold_addi]
  refine congrArg (BitVec.ofNat 32) ?_
  rw [Finset.sum_boole, Nat.cast_id]
  have : (Finset.univ.filter fun k : Fin 256 => k.val ≤ n) = Finset.Iic (⟨n, hn⟩ : Fin 256) := by
    ext k; simp [Fin.le_def]
  rw [this, Fin.card_Iic]

/-- From the count `n + 1` the kernel writes the scale `2 ^ (n - 126)`, for every `n` below 254. -/
theorem word_scale : ∀ n : Fin 254, IntOp.shli .vector (IntOp.addi (IntOp.subi (IntOp.subi (BitVec.ofNat 32 (n.val + 1)) 1#32) 126#32) 127#32) 23#32
    = stepBits ⟨n.val + 1, by omega⟩ := by
  decide +kernel

/-- The constant `1/448` of both programs is a positive number a little above `1/448`. -/
theorem c448_pos : ∃ r : ℝ, 0 < r ∧ r < 1 / 447 ∧ c448 = (r : EReal) := by
  refine ⟨_, ?_, ?_, ofBits_normal _ 118 1198373 (by decide) (by decide) (by decide) (by decide) (by decide)⟩
  · positivity
  · norm_num

/-- The reference's lower bound of the exponent is `-126`. -/
theorem lowest : Ideal.ofBits .f32 0xC2FC0000#32 = ((-126 : ℝ) : EReal) := by
  have h : Ideal.ofBits .f32 0xC2FC0000#32 = Ideal.ieee 8 23 0xC2FC0000#32 := rfl
  rw [h, Ideal.ieee]
  simp [-EReal.coe_mul, -EReal.coe_neg]
  norm_num

/-- The floor of the base-two logarithm of a positive real is below a whole number exactly when the real is below
that power of two. -/
theorem floor_log_lt (q : ℝ) (hq : 0 < q) (z : ℤ) :
    q < (2 : ℝ) ^ z ↔ ⌊Real.log q * (1 / Real.log 2)⌋ < z := by
  have hl : 0 < Real.log 2 := Real.log_pos (by norm_num)
  rw [Int.floor_lt, mul_one_div, div_lt_iff₀ hl, ← Real.log_zpow, Real.log_lt_log_iff hq (by positivity)]

/-- Below `2 ^ 127`, the kernel's count and the reference's logarithm find the same exponent `m`: the kernel's scale is
    `2 ^ m`, the reference's exponent is `m`. -/
theorem exponent (a : EReal) (h0 : 0 ≤ a) (h : a * c448 < (((2 : ℝ) ^ (127 : ℤ) : ℝ) : EReal)) :
    ∃ m : ℤ, kScale a = (((2 : ℝ) ^ m : ℝ) : EReal) ∧ rExp a = ((m : ℝ) : EReal) := by
  obtain ⟨c, hc, -, hc'⟩ := c448_pos
  by_cases ha : a = 0
  · subst ha
    refine ⟨0, ?_, ?_⟩
    · have e : kScale 0 = step 127 := by
        unfold kScale step
        rw [show Ideal.cmp .oeq (0 : EReal) 0 = 1#1 by simp [Ideal.cmp]]
        rfl
      rw [e, step_pow 127 (by decide) (by decide)]
      rfl
    · unfold rExp
      rw [show Ideal.cmp .oeq (0 : EReal) 0 = 1#1 by simp [Ideal.cmp]]
      simp [Scalar.select]
  · have hne : Ideal.cmp .oeq a 0 = 0#1 := by simp [Ideal.cmp, ha]
    have hpos : 0 < a := lt_of_le_of_ne h0 (Ne.symm ha)
    have htop : a ≠ ⊤ := by
      rintro rfl
      rw [hc', EReal.top_mul_coe_of_pos hc] at h
      exact absurd h (by simp)
    lift a to ℝ using ⟨htop, ne_bot_of_gt hpos⟩ with x
    have hx : 0 < x := by exact_mod_cast hpos
    rw [hc', ← EReal.coe_mul, EReal.coe_lt_coe_iff] at h
    have hq : 0 < x * c := mul_pos hx hc
    set q : ℝ := x * c with hqd
    set L : ℤ := ⌊Real.log q * (1 / Real.log 2)⌋ with hLd
    have hiff : ∀ z : ℤ, q < (2 : ℝ) ^ z ↔ L < z := floor_log_lt q hq
    have hL : L < 127 := (hiff 127).mp h
    have hqc : (x : EReal) * c448 = (q : EReal) := by rw [hc', ← EReal.coe_mul]
    have hn : (L + 127).toNat < 254 := by omega
    have hcount : count (x * c448) = BitVec.ofNat 32 ((L + 127).toNat + 1) := by
      rw [hqc]
      refine count_eq _ _ (by omega) fun k => ?_
      by_cases k0 : k.val = 0
      · have : k = 0 := Fin.ext k0
        rw [this, step_zero]
        refine ⟨fun hlt => absurd hlt (not_lt.mpr ?_), fun hlt => absurd hlt (by simp)⟩
        exact_mod_cast hq.le
      · by_cases k1 : k.val = 255
        · have : k = 255 := Fin.ext k1
          rw [this, step_top]
          exact ⟨fun _ => by show _ < 255; omega, fun _ => EReal.coe_lt_top _⟩
        · rw [step_pow k k0 k1, EReal.coe_lt_coe_iff, hiff]
          omega
    refine ⟨((L + 127).toNat : ℤ) - 126, ?_, ?_⟩
    · unfold kScale
      rw [hne, hcount]
      show Ideal.ofBits .f32 (IntOp.shli .vector (IntOp.addi (IntOp.subi (IntOp.subi (BitVec.ofNat 32 ((L + 127).toNat + 1)) 1#32) 126#32) 127#32) 23#32) = _
      rw [word_scale ⟨_, hn⟩]
      show step _ = _
      rw [step_pow _ (by simp) (by simp; omega)]
      refine congrArg (fun r : ℝ => (r : EReal)) (congrArg (fun z : ℤ => (2 : ℝ) ^ z) ?_)
      push_cast
      ring
    · unfold rExp
      rw [hne, hqc, lowest]
      show max (Ideal.liftRound Int.floor (Ideal.div (Ideal.log (q : EReal)) ((Real.log 2 : ℝ) : EReal)) + 1) ((-126 : ℝ) : EReal) = _
      have hlog : Ideal.log (q : EReal) = ((Real.log q : ℝ) : EReal) := by
        show (if q ≤ 0 then (⊥ : EReal) else _) = _
        rw [if_neg (not_le.mpr hq)]
      have hl2 : Real.log 2 ≠ 0 := (Real.log_pos (by norm_num)).ne'
      rw [hlog, Ideal.div_coe hl2, ← EReal.coe_mul]
      show max (((⌊Real.log q * (1 / Real.log 2)⌋ : ℤ) : ℝ) + 1 : EReal) ((-126 : ℝ) : EReal) = _
      rw [← hLd]
      rw [show ((L : ℝ) : EReal) + 1 = (((L + 1 : ℤ) : ℝ) : EReal) by push_cast; rfl,
        show ((-126 : ℝ) : EReal) = (((-126 : ℤ) : ℝ) : EReal) by norm_num]
      rw [← EReal.coe_strictMono.monotone.map_max, ← Int.cast_max]
      refine congrArg (fun z : ℤ => ((z : ℝ) : EReal)) ?_
      omega

/-- The reference's power of two at a whole exponent. -/
theorem exp2_int (m : ℤ) : Ideal.exp2 ((m : ℝ) : EReal) = (((2 : ℝ) ^ m : ℝ) : EReal) := by
  show ((Real.rpow 2 (m : ℝ) : ℝ) : EReal) = _
  rw [show Real.rpow 2 (m : ℝ) = (2 : ℝ) ^ (m : ℝ) from rfl, Real.rpow_intCast]

/-- The kernel's scale is the reference's. -/
theorem kScale_eq (a : EReal) (h0 : 0 ≤ a) (h : a * c448 < (((2 : ℝ) ^ (127 : ℤ) : ℝ) : EReal)) :
    kScale a = Ideal.exp2 (rExp a) := by
  obtain ⟨m, hk, hr⟩ := exponent a h0 h
  rw [hk, hr, exp2_int]

/-- The reciprocal of the kernel's scale is the reference's power of the negated exponent. -/
theorem inv_kScale_eq (a : EReal) (h0 : 0 ≤ a) (h : a * c448 < (((2 : ℝ) ^ (127 : ℤ) : ℝ) : EReal)) :
    Ideal.div 1 (kScale a) = Ideal.exp2 (0 - rExp a) := by
  obtain ⟨m, hk, hr⟩ := exponent a h0 h
  rw [hk, hr, zero_sub, ← EReal.coe_neg, show -(m : ℝ) = ((-m : ℤ) : ℝ) by push_cast; rfl, exp2_int,
    Ideal.div_coe (by positivity), one_mul, one_div, ← zpow_neg]

end Cert.Row

end
-- ==== Proof.Row.lean ====
/-
  WHAT ONE ROW BECOMES. The specification both programs are read against: from a row of `x` and the two row vectors, its
  mean, its reciprocal standard deviation, the modulated row `h` and the largest magnitude of `h`. The file also bounds
  that magnitude: a normalised entry is at most 60 in magnitude on every row, so with finite row vectors `h` stays far
  enough below the top of the format for the scale's exponent to be that of a normal number.
-/
module

public import proofs.«01_k».proof.Proof.Exponent

@[expose] public section

set_option maxRecDepth 16384

noncomputable section

namespace Cert.Row

open Idealize.ShloMosaic

/-- The reciprocal of the number of columns. -/
def inv : EReal := ((1 / 3584 : ℝ) : EReal)

/-- The number added to the variance, as both programs write it. -/
def eps : EReal := Ideal.ofBits .f32 0x358637BD#32

/-- The number one, as both programs write it. -/
def one : EReal := Ideal.ofBits .f32 0x3F800000#32

/-- The value a row's maximum starts from, as both programs write it. -/
def least : EReal := Ideal.ofBits .f32 0xFF800000#32

/-- The largest finite value of the row vectors' format. -/
def vmax : EReal := Ideal.ofBits .f32 0x7F7F0000#32

/-- A row's mean. -/
def mean (X : Fin 3584 → EReal) : EReal := (∑ j, X j) * inv

/-- A row's reciprocal standard deviation. -/
def rstd (X : Fin 3584 → EReal) : EReal :=
  Ideal.rsqrt ((∑ j, (X j - mean X) * (X j - mean X)) * inv + eps)

/-- The modulated row. -/
def h (X sc sh : Fin 3584 → EReal) (j : Fin 3584) : EReal := (X j - mean X) * rstd X * (one + sc j) + sh j

/-- The largest magnitude of the modulated row. -/
def amax (X sc sh : Fin 3584 → EReal) : EReal :=
  Finset.univ.fold max least fun j => max (h X sc sh j) (-(h X sc sh j))

/-- The clip to the code format's range. -/
def clip (v : EReal) : EReal := min (Ideal.ofBits .f32 0x43E00000#32) (max (Ideal.ofBits .f32 0xC3E00000#32) v)

/-- A code of the row, as the kernel computes it. -/
def code (X sc sh : Fin 3584 → EReal) (j : Fin 3584) : EReal :=
  clip (h X sc sh j * Ideal.div 1 (kScale (amax X sc sh)))

/-- An output of the row: the codes' product with a column of the weights, rescaled, shifted and gated. -/
def out (X sc sh W : Fin 3584 → EReal) (ws b g : EReal) : EReal :=
  ((∑ k, code X sc sh k * W k) * kScale (amax X sc sh) * ws + b) * g

/-- `1` as both programs write it. -/
theorem one_eq : one = ((1 : ℝ) : EReal) := by
  refine (ofBits_normal _ 127 0 (by decide) (by decide) (by decide) (by decide) (by decide)).trans
    (congrArg (fun r : ℝ => (r : EReal)) ?_)
  norm_num

/-- The number added to the variance is a positive real. -/
theorem eps_pos : ∃ e : ℝ, 0 < e ∧ eps = (e : EReal) := by
  refine ⟨_, ?_, ofBits_normal _ 107 407485 (by decide) (by decide) (by decide) (by decide) (by decide)⟩
  positivity

/-- The largest finite value of the row vectors' format is a real below `2^128 - 1`. -/
theorem vmax_lt : ∃ v : ℝ, v ≤ 2 ^ 128 - 1 ∧ vmax = (v : EReal) := by
  refine ⟨_, ?_, ofBits_normal _ 254 8323072 (by decide) (by decide) (by decide) (by decide) (by decide)⟩
  norm_num

/-- A finite sum of reals is the real sum. -/
theorem coe_sum {ι : Type} (s : Finset ι) (f : ι → ℝ) : (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- If a sum is a real, so is every term. -/
theorem real_of_sum {ι : Type} (s : Finset ι) (f : ι → EReal) (r : ℝ) (h : ∑ j ∈ s, f j = (r : EReal)) :
    ∀ j ∈ s, ∃ q : ℝ, f j = (q : EReal) := by
  classical
  induction s using Finset.induction_on generalizing r with
  | empty => simp
  | insert a s ha ih =>
    rw [Finset.sum_insert ha] at h
    have key : (∃ p : ℝ, f a = (p : EReal)) ∧ ∃ p : ℝ, ∑ j ∈ s, f j = (p : EReal) := by
      generalize f a = u at h
      generalize ∑ j ∈ s, f j = w at h
      induction u with
      | bot => simp at h
      | top => induction w with
        | bot => simp at h
        | top => simp at h
        | coe w => simp at h
      | coe u => induction w with
        | bot => simp at h
        | top => simp at h
        | coe w => exact ⟨⟨u, rfl⟩, ⟨w, rfl⟩⟩
    intro j hj
    rcases Finset.mem_insert.mp hj with rfl | hj
    · exact key.1
    · obtain ⟨p, hp⟩ := key.2
      exact ih p hp j hj

/-- A sum of `⊤` over a nonempty index set is `⊤`. -/
theorem sum_top {ι : Type} [Fintype ι] [Nonempty ι] : (∑ _j : ι, (⊤ : EReal)) = ⊤ := by
  classical
  obtain ⟨a⟩ := ‹Nonempty ι›
  rw [← Finset.add_sum_erase _ _ (Finset.mem_univ a)]
  refine EReal.top_add_of_ne_bot ?_
  exact ne_bot_of_le_ne_bot (by simp) (Finset.sum_nonneg fun _ _ => le_top : (0 : EReal) ≤ _)

/-- Every normalised entry of a row is a real of magnitude at most 60, whatever the row holds: on a row of reals its
square is at most the number of columns, and on a row whose mean is infinite the reciprocal deviation is zero. -/
theorem normal_bound (X : Fin 3584 → EReal) (j : Fin 3584) :
    ∃ r : ℝ, (X j - mean X) * rstd X = (r : EReal) ∧ |r| ≤ 60 := by
  obtain ⟨e, he, hee⟩ := eps_pos
  have hinv : (0 : ℝ) < 1 / 3584 := by norm_num
  by_cases hS : ∃ s : ℝ, ∑ j, X j = (s : EReal)
  · obtain ⟨s, hs⟩ := hS
    have hx := real_of_sum _ _ s hs
    choose x hxx using fun j => hx j (Finset.mem_univ j)
    set μ : ℝ := s * (1 / 3584) with hμ
    have hm : mean X = (μ : EReal) := by rw [mean, hs, inv, ← EReal.coe_mul]
    have hd : ∀ j, X j - mean X = ((x j - μ : ℝ) : EReal) := fun j => by rw [hm, hxx, ← EReal.coe_sub]
    set S : ℝ := ∑ j, (x j - μ) * (x j - μ) with hSd
    have hnn : ∀ j ∈ Finset.univ, 0 ≤ (x j - μ) * (x j - μ) := fun j _ => mul_self_nonneg _
    have hle : (x j - μ) * (x j - μ) ≤ S := Finset.single_le_sum hnn (Finset.mem_univ j)
    have hS0 : 0 ≤ S := Finset.sum_nonneg hnn
    set v : ℝ := S * (1 / 3584) + e with hv
    have hv0 : 0 < v := by positivity
    have hr : rstd X = (((Real.sqrt v)⁻¹ : ℝ) : EReal) := by
      have : (∑ j, (X j - mean X) * (X j - mean X)) * inv + eps = (v : EReal) := by
        simp only [hd, ← EReal.coe_mul]
        rw [coe_sum, ← hSd, inv, hee, ← EReal.coe_mul, ← EReal.coe_add]
      rw [rstd, this, Ideal.rsqrt_coe, if_neg (not_lt.mpr hv0.le), if_neg hv0.ne']
    refine ⟨(x j - μ) * (Real.sqrt v)⁻¹, by rw [hd, hr, ← EReal.coe_mul], ?_⟩
    rw [abs_mul, abs_inv, abs_of_nonneg (Real.sqrt_nonneg v), ← div_eq_mul_inv, div_le_iff₀ (Real.sqrt_pos.mpr hv0)]
    refine abs_le_of_sq_le_sq ?_ (by positivity)
    rw [mul_pow, Real.sq_sqrt hv0.le, sq]
    nlinarith
  · have hinf : mean X = ⊤ ∨ mean X = ⊥ := by
      unfold mean inv
      generalize ∑ j, X j = u at hS
      induction u with
      | bot => exact Or.inr (EReal.bot_mul_coe_of_pos hinv)
      | top => exact Or.inl (EReal.top_mul_coe_of_pos hinv)
      | coe u => exact absurd ⟨u, rfl⟩ hS
    have hsq : ∀ j, (X j - mean X) * (X j - mean X) = ⊤ := by
      intro j
      generalize X j = u
      rcases hinf with h | h <;> rw [h] <;> induction u <;> simp [sub_eq_add_neg]
    have hr : rstd X = 0 := by
      rw [rstd, hee]
      simp only [hsq]
      rw [sum_top, inv, EReal.top_mul_coe_of_pos hinv, EReal.top_add_coe, Ideal.rsqrt_top]
    exact ⟨0, by rw [hr, mul_zero]; rfl, by norm_num⟩

/-- A value whose magnitude is at most the row vectors' largest finite value is a real of magnitude below `2^128 - 1`. -/
theorem real_of_le (a : EReal) (ha : max a (-a) ≤ vmax) : ∃ r : ℝ, a = (r : EReal) ∧ |r| ≤ 2 ^ 128 - 1 := by
  obtain ⟨v, hv, hvv⟩ := vmax_lt
  rw [hvv] at ha
  induction a with
  | bot => simp at ha
  | top => simp at ha
  | coe r =>
    refine ⟨r, rfl, le_trans ?_ hv⟩
    rw [← EReal.coe_neg, max_le_iff, EReal.coe_le_coe_iff, EReal.coe_le_coe_iff] at ha
    exact abs_le.mpr ⟨by linarith [ha.2], ha.1⟩

/-- With finite row vectors, every modulated entry has magnitude at most `61 · 2^128`. -/
theorem h_bound (X sc sh : Fin 3584 → EReal) (hsc : ∀ j, max (sc j) (-(sc j)) ≤ vmax)
    (hsh : ∀ j, max (sh j) (-(sh j)) ≤ vmax) (j : Fin 3584) :
    ∃ r : ℝ, max (h X sc sh j) (-(h X sc sh j)) = (r : EReal) ∧ 0 ≤ r ∧ r ≤ 61 * 2 ^ 128 := by
  obtain ⟨n, hn, hn'⟩ := normal_bound X j
  obtain ⟨s, hs, hs'⟩ := real_of_le _ (hsc j)
  obtain ⟨t, ht, ht'⟩ := real_of_le _ (hsh j)
  have e : h X sc sh j = ((n * (1 + s) + t : ℝ) : EReal) := by
    rw [h, hn, one_eq, hs, ht, ← EReal.coe_add, ← EReal.coe_mul, ← EReal.coe_add]
  refine ⟨|n * (1 + s) + t|, ?_, abs_nonneg _, ?_⟩
  · rw [e, ← EReal.coe_neg, ← EReal.coe_strictMono.monotone.map_max]
    rfl
  · have h1 : |1 + s| ≤ 2 ^ 128 := (abs_add_le 1 s).trans (by rw [abs_one]; linarith)
    have h2 : |n * (1 + s)| ≤ 60 * 2 ^ 128 := by
      rw [abs_mul]
      exact mul_le_mul hn' h1 (abs_nonneg _) (by norm_num)
    have h3 := abs_add_le (n * (1 + s)) t
    linarith

/-- With finite row vectors, a row's largest magnitude is not negative and its scaled value is below `2^127`. -/
theorem amax_bound (X sc sh : Fin 3584 → EReal) (hsc : ∀ j, max (sc j) (-(sc j)) ≤ vmax)
    (hsh : ∀ j, max (sh j) (-(sh j)) ≤ vmax) :
    0 ≤ amax X sc sh ∧ amax X sc sh * c448 < (((2 : ℝ) ^ (127 : ℤ) : ℝ) : EReal) := by
  obtain ⟨c, hc, hc', hcc⟩ := c448_pos
  have hb := h_bound X sc sh hsc hsh
  have h0 : 0 ≤ amax X sc sh := by
    obtain ⟨r, hr, hr0, -⟩ := hb 0
    refine (Finset.le_fold_max _).mpr (Or.inr ⟨0, Finset.mem_univ _, ?_⟩)
    rw [hr]
    exact_mod_cast hr0
  have hle : amax X sc sh ≤ ((61 * 2 ^ 128 : ℝ) : EReal) := by
    refine (Finset.fold_max_le _).mpr ⟨?_, fun j _ => ?_⟩
    · rw [show least = ⊥ by simp [least, Ideal.ofBits, Ideal.ieee]]
      exact bot_le
    · obtain ⟨r, hr, -, hr1⟩ := hb j
      rw [hr]
      exact_mod_cast hr1
  refine ⟨h0, ?_⟩
  lift amax X sc sh to ℝ using ⟨ne_top_of_le_ne_top (EReal.coe_ne_top _) hle, ne_bot_of_le_ne_bot (by simp) h0⟩ with a
  rw [hcc, ← EReal.coe_mul, EReal.coe_lt_coe_iff]
  rw [EReal.coe_le_coe_iff] at hle
  have ha0 : 0 ≤ a := by exact_mod_cast h0
  have : a * c ≤ 61 * 2 ^ 128 * (1 / 447) := mul_le_mul hle hc'.le hc.le (by norm_num)
  refine this.trans_lt ?_
  norm_num

end Cert.Row

end
-- ==== Proof.Trip.lean ====
/-
  ONE TRIP IN UNIFORM WORDS. A trip of the kernel's loop works on sixteen rows, as 28 tiles of 128 columns: it adds the
  tiles and reduces them to the rows' means, does the same with the squared deviations, computes each tile of `h`, and
  reduces the tiles of `|h|` to the rows' maxima. This file states what a trip writes with the tile number as a variable:
  the same operations, tile by tile, over the trip's loads.
-/
module

public import proofs.«01_k».proof.Proof.Gen.KernelIdeal.Loops

@[expose] public section

set_option maxRecDepth 16384

noncomputable section

namespace Cert.KernelIdeal.Trip

open Idealize.ShloMosaic Idealize.ShloMosaic.TcCoe
open Cert.KernelIdeal Cert.KernelIdeal.Gen

variable {F : FTy → Type} [FloatOps F] [Named F]

/-- Where a trip's load of tile `t` of `x` starts. -/
def xoff (t : Fin 28) : Fin k0_t1_loop.trips → Fin 3 → ℕ :=
  ![k0_off1, k0_off2, k0_off3, k0_off4, k0_off5, k0_off6, k0_off7, k0_off8, k0_off9, k0_off10, k0_off11, k0_off12, k0_off13, k0_off14, k0_off15, k0_off16, k0_off17, k0_off18, k0_off19, k0_off20, k0_off21, k0_off22, k0_off23, k0_off24, k0_off25, k0_off26, k0_off27, k0_off28] t

/-- Where a trip's store of tile `t` of `h` starts. -/
def hoff (t : Fin 28) : Fin k0_t1_loop.trips → Fin 2 → ℕ :=
  ![k0_off29, k0_off30, k0_off31, k0_off32, k0_off33, k0_off34, k0_off35, k0_off36, k0_off37, k0_off38, k0_off39, k0_off40, k0_off41, k0_off42, k0_off43, k0_off44, k0_off45, k0_off46, k0_off47, k0_off48, k0_off49, k0_off50, k0_off51, k0_off52, k0_off53, k0_off54, k0_off55, k0_off56] t

/-- Trip `k` loads `x` at row `16 k` and tile `t` at column `128 t`. -/
theorem xoff_eq (t : Fin 28) (k : Fin k0_t1_loop.trips) : xoff t k = ![0, 16 * k.val, 128 * t.val] := by
  have h : ∀ (t : Fin 28) (k : Fin k0_t1_loop.trips), xoff t k = ![0, 16 * k.val, 128 * t.val] := by decide +kernel
  exact h t k

/-- Trip `k` stores `h` at row `16 k` and tile `t` at column `128 t`. -/
theorem hoff_eq (t : Fin 28) (k : Fin k0_t1_loop.trips) : hoff t k = ![16 * k.val, 128 * t.val] := by
  have h : ∀ (t : Fin 28) (k : Fin k0_t1_loop.trips), hoff t k = ![16 * k.val, 128 * t.val] := by decide +kernel
  exact h t k

/-- The loads of `x` lie in its block. -/
theorem xoff_inb : ∀ (t : Fin 28) (k : Fin k0_t1_loop.trips) (a : Fin 3),
    xoff t k a + S1x16x128.size a ≤ S1x256x3584.size a := by decide +kernel

/-- The stores of `h` lie in its buffer. -/
theorem hoff_inb : ∀ (t : Fin 28) (k : Fin k0_t1_loop.trips) (a : Fin 2),
    hoff t k a + S16x128.size a ≤ S256x3584.size a := by decide +kernel

/-- The loads of the row vectors lie in their blocks. -/
theorem voff_inb : ∀ (t : Fin 28) (a : Fin 3),
    (![0, 0, 128 * t.val] : Fin 3 → ℕ) a + S1x1x128.size a ≤ S1x1x3584.size a := by decide +kernel

/-- Trip `k`'s load of tile `t` of `x`. -/
def xTile (arg : Memref sig .tc .vmem S1x256x3584 .bf16) (X : BufTy.Contents (Elt F) arg.view.ty)
    (k : Fin k0_t1_loop.trips) (t : Fin 28) : Vec F S1x16x128 .bf16 :=
  View.readAt (Elt F) arg.view (Rect.unit (s := S1x256x3584) (xoff t k) S1x16x128.size (xoff_inb t k)).toLoadRect X

/-- The load of tile `t` of a row vector. -/
def vTile (arg : Memref sig .tc .vmem S1x1x3584 .bf16) (X : BufTy.Contents (Elt F) arg.view.ty)
    (t : Fin 28) : Vec F S1x1x128 .bf16 :=
  View.readAt (Elt F) arg.view (Rect.unit (s := S1x1x3584) ![0, 0, 128 * t.val] S1x1x128.size (voff_inb t)).toLoadRect X

/-- The 28 tiles added one after another. -/
def sum28 (f : Fin 28 → FVec F S16x128 .f32) : FVec F S16x128 .f32 :=
  (addf (addf (addf (addf (addf (addf (addf (addf (addf (addf (addf (addf (addf (addf (addf (addf (addf (addf (addf (addf (addf (addf (addf (addf (addf (addf (addf (f 0) (f 1)) (f 2)) (f 3)) (f 4)) (f 5)) (f 6)) (f 7)) (f 8)) (f 9)) (f 10)) (f 11)) (f 12)) (f 13)) (f 14)) (f 15)) (f 16)) (f 17)) (f 18)) (f 19)) (f 20)) (f 21)) (f 22)) (f 23)) (f 24)) (f 25)) (f 26)) (f 27))

/-- The largest of the 28 tiles, entry by entry. -/
def max28 (f : Fin 28 → FVec F S16x128 .f32) : FVec F S16x128 .f32 :=
  (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (maximumf (f 0) (f 1)) (f 2)) (f 3)) (f 4)) (f 5)) (f 6)) (f 7)) (f 8)) (f 9)) (f 10)) (f 11)) (f 12)) (f 13)) (f 14)) (f 15)) (f 16)) (f 17)) (f 18)) (f 19)) (f 20)) (f 21)) (f 22)) (f 23)) (f 24)) (f 25)) (f 26)) (f 27))

/-- A tile of `x` widened. -/
def wide (x : Vec F S1x16x128 .bf16) : FVec F S16x128 .f32 :=
  extf .f32 (shapeCast S16x128 x shapeCasts_S1x16x128_S16x128) bitsLt_bf16_f32

/-- A tile of a row vector widened. -/
def wideV (v : Vec F S1x1x128 .bf16) : FVec F S1x128 .f32 :=
  extf .f32 (shapeCast S1x128 v shapeCasts_S1x1x128_S1x128) bitsLt_bf16_f32

/-- A tile's deviations from the rows' means. -/
def dev (mu : FVec F S16x1 .f32) (x : Vec F S1x16x128 .bf16) : FVec F S16x128 .f32 :=
  subf (wide x) (broadcastTo S16x128 mu broadcasts_S16x1_S16x128)

/-- A sum over the 28 tiles and then over the lanes, divided by the number of columns. -/
def average (s : FVec F S16x128 .f32) : FVec F S16x1 .f32 :=
  mulf (shapeCast S16x1 (multiReduction .add [1] S16 s 0x00000000#32 reduces_S16x128_S16 (.inl rfl) rfl)
    shapeCasts_S16_S16x1) (broadcast S16x1 (Named.named κ "inv_d" 0x39924925#32 : F .f32))

/-- The rows' means. -/
def meanV (x : Fin 28 → Vec F S1x16x128 .bf16) : FVec F S16x1 .f32 := average (sum28 fun t => wide (x t))

/-- The rows' reciprocal standard deviations. -/
def rstdV (mu : FVec F S16x1 .f32) (x : Fin 28 → Vec F S1x16x128 .bf16) : FVec F S16x1 .f32 :=
  rsqrt (addf (average (sum28 fun t => mulf (dev mu (x t)) (dev mu (x t))))
    (broadcast S16x1 (Scalar.ofBits .f32 0x358637BD#32 : F .f32)))

/-- A tile of `h`. -/
def hTile (mu rs : FVec F S16x1 .f32) (x : Vec F S1x16x128 .bf16) (sc sh : Vec F S1x1x128 .bf16) : FVec F S16x128 .f32 :=
  addf (mulf (mulf (dev mu x) (broadcastTo S16x128 rs broadcasts_S16x1_S16x128))
      (broadcastTo S16x128 (addf (broadcast S1x128 (Scalar.ofBits .f32 0x3F800000#32 : F .f32)) (wideV sc))
        broadcasts_S1x128_S16x128))
    (broadcastTo S16x128 (wideV sh) broadcasts_S1x128_S16x128)

/-- The rows' largest magnitudes. -/
def amaxV (mu rs : FVec F S16x1 .f32) (x : Fin 28 → Vec F S1x16x128 .bf16) (sc sh : Fin 28 → Vec F S1x1x128 .bf16) :
    FVec F S16x1 .f32 :=
  shapeCast S16x1 (multiReduction .maximumf [1] S16 (max28 fun t => absf (hTile mu rs (x t) (sc t) (sh t))) 0xFF800000#32
    reduces_S16x128_S16 (.inl rfl) rfl) shapeCasts_S16_S16x1

/-- The rows' exponents, by counting the thresholds their scaled maxima reach. -/
def exponentV (a : FVec F S16x1 .f32) : IVec S16x1 32 :=
  subi (subi (shapeCast S16x1 (multiReductionI .add [1] S16
    (select (cmpf .olt (broadcastTo S16x256 (mulf a (broadcast S16x1 (Scalar.ofBits .f32 0x3B124925#32 : F .f32)))
        broadcasts_S16x1_S16x256)
      (bitcastToFloat .f32 (shli (iota .tc S16x256 32 [1] iota_S16x256_d1_w32) (broadcast S16x256 23#32))))
      (broadcast S16x256 0#32) (broadcast S16x256 1#32)) 0#32 reduces_S16x256_S16 rfl) shapeCasts_S16_S16x1)
    (broadcast S16x1 1#32)) (broadcast S16x1 126#32)

/-- The rows' scales. -/
def scaleV (a : FVec F S16x1 .f32) : FVec F S1x16x1 .f32 := k0_pay105 a (exponentV a)

/-- The trip's means, by the words of its run. -/
abbrev mu (arg2 : Memref sig .tc .vmem S1x256x3584 .bf16) (X2 : BufTy.Contents (Elt F) arg2.view.ty)
    (k : Fin k0_t1_loop.trips) : FVec F S16x1 .f32 := trip_k0_t1.sl.r_1 arg2 X2 k

/-- The trip's reciprocal standard deviations, by the words of its run. -/
abbrev rs (arg2 : Memref sig .tc .vmem S1x256x3584 .bf16) (X2 : BufTy.Contents (Elt F) arg2.view.ty)
    (k : Fin k0_t1_loop.trips) : FVec F S16x1 .f32 := trip_k0_t1.sl.r_3 arg2 X2 k

/-- The trip's means are the uniform ones. -/
theorem mu_eq (arg2 : Memref sig .tc .vmem S1x256x3584 .bf16) (X2 : BufTy.Contents (Elt F) arg2.view.ty)
    (k : Fin k0_t1_loop.trips) : mu arg2 X2 k = meanV (xTile arg2 X2 k) := rfl

/-- The trip's reciprocal standard deviations are the uniform ones. -/
theorem rs_eq (arg2 : Memref sig .tc .vmem S1x256x3584 .bf16) (X2 : BufTy.Contents (Elt F) arg2.view.ty)
    (k : Fin k0_t1_loop.trips) : rs arg2 X2 k = rstdV (mu arg2 X2 k) (xTile arg2 X2 k) := rfl

/-- What trip `k` stores into the buffer of `h` at tile `t`. -/
abbrev hPiece (arg2 : Memref sig .tc .vmem S1x256x3584 .bf16) (arg3 arg4 : Memref sig .tc .vmem S1x1x3584 .bf16)
    (X2 : BufTy.Contents (Elt F) arg2.view.ty) (X3 : BufTy.Contents (Elt F) arg3.view.ty)
    (X4 : BufTy.Contents (Elt F) arg4.view.ty) (k : Fin k0_t1_loop.trips) (t : Fin 28) : View.Piece (Elt F) S256x3584 .f32 :=
  ⟨Rect.unit (s := S256x3584) (hoff t k) S16x128.size (hoff_inb t k),
    shapeCast S16x128 (hTile (mu arg2 X2 k) (rs arg2 X2 k) (xTile arg2 X2 k t) (vTile arg4 X4 t) (vTile arg3 X3 t))
      shapeCasts_S16x128_S16x128⟩

/-- What trip `k` stores into the scales' block. -/
abbrev sPiece (arg2 : Memref sig .tc .vmem S1x256x3584 .bf16) (arg3 arg4 : Memref sig .tc .vmem S1x1x3584 .bf16)
    (X2 : BufTy.Contents (Elt F) arg2.view.ty) (X3 : BufTy.Contents (Elt F) arg3.view.ty)
    (X4 : BufTy.Contents (Elt F) arg4.view.ty) (k : Fin k0_t1_loop.trips) : View.Piece (Elt F) S1x256x1 .f32 :=
  ⟨Rect.unit (s := S1x256x1) (k0_off57 k) S1x16x1.size (k0_off57_inb k),
    scaleV (amaxV (mu arg2 X2 k) (rs arg2 X2 k) (xTile arg2 X2 k) (vTile arg4 X4) (vTile arg3 X3))⟩

/-- A trip stores one piece of the scales. -/
theorem trip_scales (𝒱 : Variants) (c : Dev nD) (bd : Option 𝒱.V) (i : grid0.Coords) (arg2 : Memref sig .tc .vmem S1x256x3584 .bf16) (harg2 : arg2.IsWhole) (arg3 : Memref sig .tc .vmem S1x1x3584 .bf16) (harg3 : arg3.IsWhole) (arg4 : Memref sig .tc .vmem S1x1x3584 .bf16) (harg4 : arg4.IsWhole) (arg5 : Memref sig .tc .vmem S1x1x512 .bf16) (harg5 : arg5.IsWhole) (arg6 : Memref sig .tc .vmem S3584x512 .fp8e4m3) (harg6 : arg6.IsWhole) (arg7 : Memref sig .tc .vmem S1x512 .f32) (harg7 : arg7.IsWhole) (arg8 : Memref sig .tc .vmem S1x512 .bf16) (harg8 : arg8.IsWhole) (arg9 : Memref sig .tc .vmem S1x256x512 .bf16) (harg9 : arg9.IsWhole) (arg10 : Memref sig .tc .vmem S1x256x3584 .fp8e4m3) (harg10 : arg10.IsWhole) (arg11 : Memref sig .tc .vmem S1x256x1 .f32) (harg11 : arg11.IsWhole) (arg12 : Memref sig .tc .vmem S256x3584 .f32) (harg12 : arg12.IsWhole)
    (X2 : BufTy.Contents (Elt F) arg2.view.ty) (X3 : BufTy.Contents (Elt F) arg3.view.ty) (X4 : BufTy.Contents (Elt F) arg4.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 X2 X3 X4 k).1 = [sPiece arg2 arg3 arg4 X2 X3 X4 k] := by
  unfold trip_k0_t1
  dsimp only
  rfl

/-- A trip stores the 28 tiles of `h`, the last one first in the list. -/
theorem trip_tiles (𝒱 : Variants) (c : Dev nD) (bd : Option 𝒱.V) (i : grid0.Coords) (arg2 : Memref sig .tc .vmem S1x256x3584 .bf16) (harg2 : arg2.IsWhole) (arg3 : Memref sig .tc .vmem S1x1x3584 .bf16) (harg3 : arg3.IsWhole) (arg4 : Memref sig .tc .vmem S1x1x3584 .bf16) (harg4 : arg4.IsWhole) (arg5 : Memref sig .tc .vmem S1x1x512 .bf16) (harg5 : arg5.IsWhole) (arg6 : Memref sig .tc .vmem S3584x512 .fp8e4m3) (harg6 : arg6.IsWhole) (arg7 : Memref sig .tc .vmem S1x512 .f32) (harg7 : arg7.IsWhole) (arg8 : Memref sig .tc .vmem S1x512 .bf16) (harg8 : arg8.IsWhole) (arg9 : Memref sig .tc .vmem S1x256x512 .bf16) (harg9 : arg9.IsWhole) (arg10 : Memref sig .tc .vmem S1x256x3584 .fp8e4m3) (harg10 : arg10.IsWhole) (arg11 : Memref sig .tc .vmem S1x256x1 .f32) (harg11 : arg11.IsWhole) (arg12 : Memref sig .tc .vmem S256x3584 .f32) (harg12 : arg12.IsWhole)
    (X2 : BufTy.Contents (Elt F) arg2.view.ty) (X3 : BufTy.Contents (Elt F) arg3.view.ty) (X4 : BufTy.Contents (Elt F) arg4.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 X2 X3 X4 k).2.1 = ([27, 26, 25, 24, 23, 22, 21, 20, 19, 18, 17, 16, 15, 14, 13, 12, 11, 10, 9, 8, 7, 6, 5, 4, 3, 2, 1, 0] : List (Fin 28)).map (hPiece arg2 arg3 arg4 X2 X3 X4 k) := by
  unfold trip_k0_t1
  dsimp only
  rfl

end Cert.KernelIdeal.Trip

end
-- ==== Proof.TripValue.lean ====
/-
  WHAT A TRIP COMPUTES, ROW BY ROW. The uniform words of a trip read at the extended reals: each of its loads, its means,
  its reciprocal deviations, its tiles of `h`, its maxima and its scales are those of the row specification, for the
  sixteen rows the trip works on.
-/
module

public import proofs.«01_k».proof.Proof.Row
public import proofs.«01_k».proof.Proof.Trip
public import Idealize.ShloMosaic.Lib.ValueIdx
public import Idealize.ShloMosaic.Lib.Pointwise
public import Idealize.ShloMosaic.Lib.Pipeline.Value

@[expose] public section

set_option maxRecDepth 16384

noncomputable section

namespace Cert.KernelIdeal.Trip

open Idealize.ShloMosaic Idealize.ShloMosaic.TcCoe
open Cert.KernelIdeal Cert.KernelIdeal.Gen
open Cert (Row.mean Row.rstd)

/-- The row of the block that is row `r` of trip `k`. -/
def rowOf (k : Fin k0_t1_loop.trips) (r : Fin 16) : Fin 256 :=
  ⟨16 * k.val + r.val, by have := k.isLt; have : k.val < 16 := this; omega⟩

/-- The column that is lane `l` of tile `t`. -/
def colOf (t : Fin 28) (l : Fin 128) : Fin 3584 := ⟨128 * t.val + l.val, by omega⟩

/-- Every column is one lane of one tile. -/
theorem colOf_surj (j : Fin 3584) : ∃ t l, j = colOf t l :=
  ⟨⟨j.val / 128, by omega⟩, ⟨j.val % 128, by omega⟩, Fin.ext (by simp only [colOf]; omega)⟩

/-- A sum over the lanes of sums over the tiles is the sum over the columns. -/
theorem sum_cols (f : Fin 3584 → EReal) : (∑ l : Fin 128, ∑ t : Fin 28, f (colOf t l)) = ∑ j, f j := by
  rw [Finset.sum_comm, ← Fintype.sum_prod_type' (f := fun t l => f (colOf t l))]
  refine Fintype.sum_equiv (finProdFinEquiv (m := 28) (n := 128)) _ _ fun p => congrArg f (Fin.ext ?_)
  simp only [colOf, finProdFinEquiv_apply_val]
  omega

section
variable (arg2 : Memref sig .tc .vmem S1x256x3584 .bf16) (X2 : BufTy.Contents (Elt Ideal) arg2.view.ty)
variable (x0 : Vec Ideal S1x256x3584 .bf16) (h2 : arg2.view.read (Elt Ideal) X2 = x0)
variable (arg : Memref sig .tc .vmem S1x1x3584 .bf16) (X : BufTy.Contents (Elt Ideal) arg.view.ty)
variable (v0 : Vec Ideal S1x1x3584 .bf16) (hv : arg.view.read (Elt Ideal) X = v0)

include h2 in
/-- A load of `x` reads the trip's row at the tile's column. -/
theorem xTile_apply (k : Fin k0_t1_loop.trips) (t : Fin 28) (r : Fin 16) (l : Fin 128) :
    xTile arg2 X2 k t (ix3 0 r l) = x0 (ix3 0 (rowOf k r) (colOf t l)) := by
  unfold xTile
  rw [View.readAt_eq_ld, h2]
  refine congrArg x0 (funext fun a => Fin.ext ?_)
  refine (congrArg (fun n => n + 1 * (ix3 (0 : Fin 1) r l a).val) (congrFun (xoff_eq t k) a)).trans ?_
  fin_cases a <;> simp [rowOf, colOf, ix3]

include hv in
/-- A load of a row vector reads it at the tile's column. -/
theorem vTile_apply (t : Fin 28) (l : Fin 128) : vTile arg X t (ix3 0 0 l) = v0 (ix3 0 0 (colOf t l)) := by
  unfold vTile
  rw [View.readAt_eq_ld, hv]
  refine congrArg v0 (funext fun a => Fin.ext ?_)
  show (![0, 0, 128 * t.val] : Fin 3 → ℕ) a + 1 * _ = _
  fin_cases a <;> simp [colOf, ix3]

end

/-- A widened tile is the tile. -/
theorem wide_apply (x : Vec Ideal S1x16x128 .bf16) (r : Fin 16) (l : Fin 128) : wide x (ix2 r l) = x (ix3 0 r l) :=
  shapeCast_apply _ _ _ _ (by
    rw [Shape.rowMajor_val_three, Shape.rowMajor_val_two]
    simp [ix2, ix3])

/-- A widened tile of a row vector is the tile. -/
theorem wideV_apply (x : Vec Ideal S1x1x128 .bf16) (l : Fin 128) : wideV x (ix2 0 l) = x (ix3 0 0 l) :=
  shapeCast_apply _ _ _ _ (by
    rw [Shape.rowMajor_val_three, Shape.rowMajor_val_two]
    simp [ix2, ix3])

/-- A column vector spread over the lanes. -/
theorem spread_col {n : ℕ} (v : FVec Ideal S16x1 .f32) (hb : S16x1.Broadcasts ⟨2, ![16, n]⟩) (r : Fin 16) (l : Fin n) :
    broadcastTo ⟨2, ![16, n]⟩ v hb (ix2 r l) = v (ix2 r 0) :=
  broadcastTo_apply _ _ _ _ (by intro a; fin_cases a <;> rfl)

/-- A row vector spread over the rows. -/
theorem spread_row (v : FVec Ideal S1x128 .f32) (r : Fin 16) (l : Fin 128) :
    broadcastTo S16x128 v broadcasts_S1x128_S16x128 (ix2 r l) = v (ix2 0 l) :=
  broadcastTo_apply _ _ _ _ (by intro a; fin_cases a <;> rfl)

/-- The 28 tiles added one after another are their sum. -/
theorem sum28_apply (f : Fin 28 → FVec Ideal S16x128 .f32) (i : S16x128.Idx) : sum28 f i = ∑ t, f t i := by
  simp only [Fin.sum_univ_castSucc, Fin.sum_univ_zero, zero_add]
  rfl

/-- The largest of the 28 tiles is at most a bound exactly when every tile is. -/
theorem max28_le (f : Fin 28 → FVec Ideal S16x128 .f32) (i : S16x128.Idx) (b : EReal) :
    max28 f i ≤ b ↔ ∀ t, f t i ≤ b := by
  have e : ∀ x y : FVec Ideal S16x128 .f32, (maximumf x y i : EReal) ≤ b ↔ (x i : EReal) ≤ b ∧ (y i : EReal) ≤ b :=
    fun x y => max_le_iff
  simp only [Fin.forall_fin_succ, max28, e, and_assoc]
  simp only [Fin.forall_fin_zero_pi, IsEmpty.forall_iff, and_true]
  rfl

/-- A vector of rows as a column. -/
theorem column_apply {α : Type} (v : S16.Idx → α) (r : Fin 16) :
    shapeCast S16x1 v shapeCasts_S16_S16x1 (ix2 r 0) = v (ix1 r) :=
  shapeCast_apply _ _ _ _ (by
    rw [Shape.rowMajor_val_one, Shape.rowMajor_val_two]
    simp [ix1, ix2])

/-- The index a reduction over the lanes reads. -/
theorem lift_lane (r : Fin 16) (l : Fin 128) : reduces_S16x128_S16.lift (ix1 r) l = ix2 r l := by
  funext a
  fin_cases a <;> rfl

/-- The number the kernel multiplies a sum by is the reciprocal of the number of columns. -/
theorem named_inv : (Named.named κ "inv_d" 0x39924925#32 : Ideal .f32) = Row.inv :=
  IdealRules.named_const.ideal_named_scalar _ _ _ _ rfl

/-- A sum over the lanes, as the program reduces. -/
theorem lane_sum (s : FVec Ideal S16x128 .f32) (r : Fin 16) :
    multiReduction .add [1] S16 s 0x00000000#32 reduces_S16x128_S16 (.inl rfl) rfl (ix1 r)
      = ∑ l : Fin 128, s (ix2 r l) :=
  (Ideal.multiReduction_add_single s _ reduces_S16x128_S16 (.inl rfl) rfl (ix1 r)).trans
    (Finset.sum_congr rfl fun l _ => congrArg s (lift_lane r l))

/-- A maximum over the lanes, as the program reduces. -/
theorem lane_max (s : FVec Ideal S16x128 .f32) (r : Fin 16) :
    multiReduction .maximumf [1] S16 s 0xFF800000#32 reduces_S16x128_S16 (.inl rfl) rfl (ix1 r)
      = Finset.univ.fold max Row.least fun l : Fin 128 => (s (ix2 r l) : EReal) :=
  (Ideal.multiReduction_maximumf_single s _ reduces_S16x128_S16 (.inl rfl) rfl (ix1 r)).trans
    (Finset.fold_congr fun l _ => congrArg s (lift_lane r l))

/-- The index a count over the thresholds reads. -/
theorem lift_threshold (r : Fin 16) (l : Fin 256) : reduces_S16x256_S16.lift (ix1 r) l = ix2 r l := by
  funext a
  fin_cases a <;> rfl

/-- A count over the thresholds, as the program reduces. -/
theorem lane_count (s : IVec S16x256 32) (r : Fin 16) :
    multiReductionI .add [1] S16 s 0#32 reduces_S16x256_S16 rfl (ix1 r)
      = Finset.univ.fold IntOp.addi 0#32 fun l : Fin 256 => s (ix2 r l) :=
  (multiReductionI_eq_fold .add s 0#32 reduces_S16x256_S16 rfl (ix1 r)).trans
    ((reduces_S16x256_S16.fold_filter_drop_single _ _ s (ix1 r)).trans
      (Finset.fold_congr fun l _ => congrArg s (lift_threshold r l)))

/-- An average is the sum over the lanes times the reciprocal of the number of columns. -/
theorem average_apply (s : FVec Ideal S16x128 .f32) (r : Fin 16) :
    average s (ix2 r 0) = (∑ l : Fin 128, s (ix2 r l)) * Row.inv := by
  show shapeCast S16x1 _ shapeCasts_S16_S16x1 (ix2 r 0) * (Named.named κ "inv_d" 0x39924925#32 : Ideal .f32) = _
  rw [named_inv]
  exact congrArg (· * Row.inv) ((column_apply _ r).trans (lane_sum s r))

section
variable (arg2 : Memref sig .tc .vmem S1x256x3584 .bf16) (X2 : BufTy.Contents (Elt Ideal) arg2.view.ty)
variable (arg3 : Memref sig .tc .vmem S1x1x3584 .bf16) (X3 : BufTy.Contents (Elt Ideal) arg3.view.ty)
variable (arg4 : Memref sig .tc .vmem S1x1x3584 .bf16) (X4 : BufTy.Contents (Elt Ideal) arg4.view.ty)
variable (x0 : Vec Ideal S1x256x3584 .bf16) (h2 : arg2.view.read (Elt Ideal) X2 = x0)
variable (x1 : Vec Ideal S1x1x3584 .bf16) (h3 : arg3.view.read (Elt Ideal) X3 = x1)
variable (x2 : Vec Ideal S1x1x3584 .bf16) (h4 : arg4.view.read (Elt Ideal) X4 = x2)
variable (k : Fin k0_t1_loop.trips) (r : Fin 16)

/-- A row of the block of `x`. -/
def xRow (x0 : Vec Ideal S1x256x3584 .bf16) (ρ : Fin 256) : Fin 3584 → EReal := fun j => x0 (ix3 0 ρ j)

/-- A row vector of the block. -/
def vRow (v : Vec Ideal S1x1x3584 .bf16) : Fin 3584 → EReal := fun j => v (ix3 0 0 j)

include h2 in
/-- The trip's means are the rows' means. -/
theorem mu_apply : mu arg2 X2 k (ix2 r 0) = Row.mean (xRow x0 (rowOf k r)) := by
  rw [mu_eq, meanV, average_apply, Row.mean]
  refine congrArg (· * Row.inv) (Eq.trans ?_ (sum_cols _))
  refine Finset.sum_congr rfl fun l _ => ?_
  rw [sum28_apply]
  refine Finset.sum_congr rfl fun t _ => ?_
  rw [wide_apply, xTile_apply arg2 X2 x0 h2]
  rfl

include h2 in
/-- A tile's deviations are the row's. -/
theorem dev_apply (t : Fin 28) (l : Fin 128) : dev (mu arg2 X2 k) (xTile arg2 X2 k t) (ix2 r l)
    = xRow x0 (rowOf k r) (colOf t l) - Row.mean (xRow x0 (rowOf k r)) := by
  show wide _ (ix2 r l) - broadcastTo S16x128 _ broadcasts_S16x1_S16x128 (ix2 r l) = _
  rw [wide_apply, xTile_apply arg2 X2 x0 h2, spread_col, mu_apply arg2 X2 x0 h2]
  rfl

include h2 in
/-- The trip's reciprocal deviations are the rows'. -/
theorem rs_apply : rs arg2 X2 k (ix2 r 0) = Row.rstd (xRow x0 (rowOf k r)) := by
  rw [rs_eq, rstdV, Row.rstd]
  show Ideal.rsqrt (average (F := Ideal) _ (ix2 r 0) + Row.eps) = _
  rw [average_apply]
  refine congrArg (fun v => Ideal.rsqrt (v * Row.inv + Row.eps)) (Eq.trans ?_ (sum_cols _))
  refine Finset.sum_congr rfl fun l _ => ?_
  rw [sum28_apply]
  refine Finset.sum_congr rfl fun t _ => ?_
  show dev _ _ (ix2 r l) * dev _ _ (ix2 r l) = _
  rw [dev_apply arg2 X2 x0 h2]

include h2 h3 h4 in
/-- A tile of `h` is the modulated row. -/
theorem hTile_apply (t : Fin 28) (l : Fin 128) :
    hTile (mu arg2 X2 k) (rs arg2 X2 k) (xTile arg2 X2 k t) (vTile arg4 X4 t) (vTile arg3 X3 t) (ix2 r l)
      = Row.h (xRow x0 (rowOf k r)) (vRow x2) (vRow x1) (colOf t l) := by
  show dev _ _ (ix2 r l) * broadcastTo S16x128 _ broadcasts_S16x1_S16x128 (ix2 r l)
    * broadcastTo S16x128 _ broadcasts_S1x128_S16x128 (ix2 r l) + broadcastTo S16x128 _ broadcasts_S1x128_S16x128 (ix2 r l) = _
  rw [dev_apply arg2 X2 x0 h2, spread_col, rs_apply arg2 X2 x0 h2, spread_row, spread_row, wideV_apply, vTile_apply arg3 X3 x1 h3]
  show _ * _ * (Row.one + wideV (F := Ideal) _ (ix2 0 l)) + _ = _
  rw [wideV_apply, vTile_apply arg4 X4 x2 h4]
  rfl

include h2 h3 h4 in
/-- The trip's maxima are the rows' largest magnitudes. -/
theorem amaxV_apply :
    amaxV (mu arg2 X2 k) (rs arg2 X2 k) (xTile arg2 X2 k) (vTile arg4 X4) (vTile arg3 X3) (ix2 r 0)
      = Row.amax (xRow x0 (rowOf k r)) (vRow x2) (vRow x1) := by
  refine ((column_apply _ r).trans (lane_max _ r)).trans ?_
  rw [Row.amax]
  refine eq_of_forall_ge_iff fun b => ?_
  rw [Finset.fold_max_le, Finset.fold_max_le]
  refine and_congr Iff.rfl ?_
  have e : ∀ (l : Fin 128) (t : Fin 28),
      absf (hTile (mu arg2 X2 k) (rs arg2 X2 k) (xTile arg2 X2 k t) (vTile arg4 X4 t) (vTile arg3 X3 t)) (ix2 r l)
        = max (Row.h (xRow x0 (rowOf k r)) (vRow x2) (vRow x1) (colOf t l))
            (-(Row.h (xRow x0 (rowOf k r)) (vRow x2) (vRow x1) (colOf t l))) := fun l t => by
    rw [← hTile_apply arg2 X2 arg3 X3 arg4 X4 x0 h2 x1 h3 x2 h4]
    rfl
  constructor
  · intro hh j _
    obtain ⟨t, l, rfl⟩ := colOf_surj j
    have := hh l (Finset.mem_univ _)
    rw [max28_le] at this
    rw [← e]
    exact this t
  · intro hh l _
    rw [max28_le]
    intro t
    rw [e]
    exact hh _ (Finset.mem_univ _)

/-- The kernel's marks: one where a row's scaled maximum reaches a threshold. -/
def marks (a : FVec Ideal S16x1 .f32) : IVec S16x256 32 :=
  select (cmpf .olt (broadcastTo S16x256 (mulf a (broadcast S16x1 (Scalar.ofBits .f32 0x3B124925#32 : Ideal .f32)))
      broadcasts_S16x1_S16x256)
    (bitcastToFloat .f32 (shli (iota .tc S16x256 32 [1] iota_S16x256_d1_w32) (broadcast S16x256 23#32))))
    (broadcast S16x256 0#32) (broadcast S16x256 1#32)

/-- The thresholds are those of the specification. -/
theorem threshold_apply (l : Fin 256) :
    (bitcastToFloat .f32 (shli (iota .tc S16x256 32 [1] iota_S16x256_d1_w32) (broadcast S16x256 23#32))
      : FVec Ideal S16x256 .f32) (ix2 r l) = Row.step l := by
  show Ideal.ofBits .f32 (IntOp.shli .vector (iota .tc S16x256 32 [1] iota_S16x256_d1_w32 (ix2 r l)) 23#32) = _
  rw [iota_apply]
  simp only [List.foldl_cons, List.foldl_nil, zero_mul, zero_add]
  rfl

/-- A mark, by the row's scaled maximum. -/
theorem marks_apply (a : FVec Ideal S16x1 .f32) (l : Fin 256) :
    marks a (ix2 r l) = Scalar.select (Ideal.cmp .olt (a (ix2 r 0) * Row.c448) (Row.step l)) 0#32 1#32 := by
  unfold marks
  show Scalar.select (Ideal.cmp .olt (broadcastTo S16x256 _ broadcasts_S16x1_S16x256 (ix2 r l))
    ((bitcastToFloat .f32 _ : FVec Ideal S16x256 .f32) (ix2 r l))) 0#32 1#32 = _
  rw [threshold_apply, spread_col]
  rfl

/-- A row's exponent is the kernel's count at its maximum. -/
theorem exponentV_apply (a : FVec Ideal S16x1 .f32) :
    exponentV a (ix2 r 0) = IntOp.subi (IntOp.subi (Row.count (a (ix2 r 0) * Row.c448)) 1#32) 126#32 := by
  have e : multiReductionI .add [1] S16 (marks a) 0#32 reduces_S16x256_S16 rfl (ix1 r)
      = Row.count (a (ix2 r 0) * Row.c448) := by
    rw [lane_count, Row.count]
    exact Finset.fold_congr fun l _ => marks_apply r a l
  exact congrArg (fun w => IntOp.subi (IntOp.subi w 1#32) 126#32)
    ((column_apply (multiReductionI .add [1] S16 (marks a) 0#32 reduces_S16x256_S16 rfl) r).trans e)

/-- A row's scale is the kernel's count at its maximum. -/
theorem scaleV_apply (a : FVec Ideal S16x1 .f32) : scaleV a (ix3 0 r 0) = Row.kScale (a (ix2 r 0)) := by
  unfold scaleV k0_pay105
  refine (shapeCast_apply _ shapeCasts_S16x1_S1x16x1 (ix3 0 r 0) (ix2 r 0) (by
    rw [Shape.rowMajor_val_three, Shape.rowMajor_val_two]
    simp [ix2, ix3])).trans ?_
  show Ideal.ofBits .f32 (IntOp.shli .vector (IntOp.addi (Scalar.select
    (Ideal.cmp .oeq (a (ix2 r 0)) (Ideal.ofBits .f32 0x00000000#32)) 0#32 (exponentV a (ix2 r 0))) 127#32) 23#32) = _
  rw [exponentV_apply, Ideal.ofBits_zero_f32, Row.kScale]

end

end Cert.KernelIdeal.Trip

end
-- ==== Proof.LoopValue.lean ====
/-
  WHAT THE LOOP LEAVES. After its sixteen trips the scales' block and the buffer of `h` hold, at every index, the row
  specification: each piece a trip writes agrees with it, and the pieces cover.
-/
module

public import proofs.«01_k».proof.Proof.TripValue
public import proofs.«01_k».proof.Proof.Gen.KernelIdeal.Frame

@[expose] public section

set_option maxRecDepth 16384

noncomputable section

namespace Cert.KernelIdeal.Trip

open Idealize.ShloMosaic Idealize.ShloMosaic.TcCoe Idealize.ShloMosaic.Tactic
open Cert.KernelIdeal Cert.KernelIdeal.Gen

/-- The modulated rows of a block. -/
def hArr (x0 : Vec Ideal S1x256x3584 .bf16) (x1 x2 : Vec Ideal S1x1x3584 .bf16) : Vec Ideal S256x3584 .f32 :=
  fun i => Row.h (xRow x0 (i 0)) (vRow x2) (vRow x1) (i 1)

/-- The scales of a block. -/
def sArr (x0 : Vec Ideal S1x256x3584 .bf16) (x1 x2 : Vec Ideal S1x1x3584 .bf16) : Vec Ideal S1x256x1 .f32 :=
  fun i => Row.kScale (Row.amax (xRow x0 (i 1)) (vRow x2) (vRow x1))

section
variable (𝒱 : Variants) (c : Dev nD) (bd : Option 𝒱.V) (i : grid0.Coords) (arg2 : Memref sig .tc .vmem S1x256x3584 .bf16) (harg2 : arg2.IsWhole) (arg3 : Memref sig .tc .vmem S1x1x3584 .bf16) (harg3 : arg3.IsWhole) (arg4 : Memref sig .tc .vmem S1x1x3584 .bf16) (harg4 : arg4.IsWhole) (arg5 : Memref sig .tc .vmem S1x1x512 .bf16) (harg5 : arg5.IsWhole) (arg6 : Memref sig .tc .vmem S3584x512 .fp8e4m3) (harg6 : arg6.IsWhole) (arg7 : Memref sig .tc .vmem S1x512 .f32) (harg7 : arg7.IsWhole) (arg8 : Memref sig .tc .vmem S1x512 .bf16) (harg8 : arg8.IsWhole) (arg9 : Memref sig .tc .vmem S1x256x512 .bf16) (harg9 : arg9.IsWhole) (arg10 : Memref sig .tc .vmem S1x256x3584 .fp8e4m3) (harg10 : arg10.IsWhole) (arg11 : Memref sig .tc .vmem S1x256x1 .f32) (harg11 : arg11.IsWhole) (arg12 : Memref sig .tc .vmem S256x3584 .f32) (harg12 : arg12.IsWhole)
    (X2 : BufTy.Contents (Elt Ideal) arg2.view.ty) (X3 : BufTy.Contents (Elt Ideal) arg3.view.ty) (X4 : BufTy.Contents (Elt Ideal) arg4.view.ty)
variable (x0 : Vec Ideal S1x256x3584 .bf16) (h2 : arg2.view.read (Elt Ideal) X2 = x0)
variable (x1 : Vec Ideal S1x1x3584 .bf16) (h3 : arg3.view.read (Elt Ideal) X3 = x1)
variable (x2 : Vec Ideal S1x1x3584 .bf16) (h4 : arg4.view.read (Elt Ideal) X4 = x2)

include h2 h3 h4 in
/-- The scales a trip stores are the specification's. -/
theorem sPiece_at (k : Fin k0_t1_loop.trips) (r : Fin 16) :
    (sPiece arg2 arg3 arg4 X2 X3 X4 k).2 (ix3 0 r 0) = sArr x0 x1 x2 ((sPiece arg2 arg3 arg4 X2 X3 X4 k).1.emb (ix3 0 r 0)) := by
  refine (scaleV_apply r _).trans ?_
  rw [amaxV_apply arg2 X2 arg3 X3 arg4 X4 x0 h2 x1 h3 x2 h4]
  refine congrArg (fun ρ => Row.kScale (Row.amax (xRow x0 ρ) (vRow x2) (vRow x1))) (Fin.ext ?_)
  refine Eq.trans ?_ (congrArg (fun n => n + 1 * r.val) (congrFun (k0_off57_eq k) 1)).symm
  simp [rowOf]

include h2 h3 h4 in
/-- The same at any index of the piece. -/
theorem sPiece_eq (k : Fin k0_t1_loop.trips) (x : S1x16x1.Idx) :
    (sPiece arg2 arg3 arg4 X2 X3 X4 k).2 x = sArr x0 x1 x2 ((sPiece arg2 arg3 arg4 X2 X3 X4 k).1.emb x) := by
  have hx : x = ix3 (0 : Fin 1) (x 1 : Fin 16) (0 : Fin 1) :=
    funext fun a => match a with
      | ⟨0, _⟩ => Subsingleton.elim (α := Fin 1) _ _
      | ⟨1, _⟩ => rfl
      | ⟨2, _⟩ => Subsingleton.elim (α := Fin 1) _ _
  exact hx ▸ sPiece_at arg2 arg3 arg4 X2 X3 X4 x0 h2 x1 h3 x2 h4 k (x 1)

include h2 h3 h4 in
/-- A tile of `h` a trip stores is the specification's. -/
theorem hPiece_at (k : Fin k0_t1_loop.trips) (t : Fin 28) (r : Fin 16) (l : Fin 128) :
    (hPiece arg2 arg3 arg4 X2 X3 X4 k t).2 (ix2 r l) = hArr x0 x1 x2 ((hPiece arg2 arg3 arg4 X2 X3 X4 k t).1.emb (ix2 r l)) := by
  have e : (hPiece arg2 arg3 arg4 X2 X3 X4 k t).2 = hTile (mu arg2 X2 k) (rs arg2 X2 k) (xTile arg2 X2 k t) (vTile arg4 X4 t) (vTile arg3 X3 t) :=
    shapeCast_self (s := S16x128) (α := Elt Ideal .f32) (hTile (mu arg2 X2 k) (rs arg2 X2 k) (xTile arg2 X2 k t) (vTile arg4 X4 t) (vTile arg3 X3 t)) shapeCasts_S16x128_S16x128
  refine (congrFun e (ix2 r l)).trans ?_
  rw [hTile_apply arg2 X2 arg3 X3 arg4 X4 x0 h2 x1 h3 x2 h4]
  refine congrArg₂ (fun ρ j => Row.h (xRow x0 ρ) (vRow x2) (vRow x1) j) (Fin.ext ?_) (Fin.ext ?_)
  · refine Eq.trans ?_ (congrArg (fun n => n + 1 * r.val) (congrFun (hoff_eq t k) 0)).symm
    simp [rowOf]
  · refine Eq.trans ?_ (congrArg (fun n => n + 1 * l.val) (congrFun (hoff_eq t k) 1)).symm
    simp [colOf]

include h2 h3 h4 in
/-- The same at any index of the piece. -/
theorem hPiece_eq (k : Fin k0_t1_loop.trips) (t : Fin 28) (x : S16x128.Idx) :
    (hPiece arg2 arg3 arg4 X2 X3 X4 k t).2 x = hArr x0 x1 x2 ((hPiece arg2 arg3 arg4 X2 X3 X4 k t).1.emb x) := by
  have hx : x = ix2 (x 0 : Fin 16) (x 1 : Fin 128) := eq_ix2 x
  exact hx ▸ hPiece_at arg2 arg3 arg4 X2 X3 X4 x0 h2 x1 h3 x2 h4 k t (x 0) (x 1)

include h2 h3 h4 in
/-- Every piece of the trips before any number agrees with the specification. -/
theorem pieces_eq (n : ℕ) :
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 X2 X3 X4 n).1, ∀ x, p.2 x = sArr x0 x1 x2 (p.1.emb x)) ∧
    (∀ p ∈ (pb_k0_t1 (F := Ideal) 𝒱 c bd i arg2 harg2 arg3 harg3 arg4 harg4 arg5 harg5 arg6 harg6 arg7 harg7 arg8 harg8 arg9 harg9 arg10 harg10 arg11 harg11 arg12 harg12 X2 X3 X4 n).2, ∀ x, p.2 x = hArr x0 x1 x2 (p.1.emb x)) := by
  induction n with
  | zero => exact ⟨fun p hp => absurd hp (by rw [pb_k0_t1]; simp), fun p hp => absurd hp (by rw [pb_k0_t1]; simp)⟩
  | succ n ih =>
    by_cases hn : n < k0_t1_loop.trips
    · have e := pb_k0_t1_succ (F := Ideal) 𝒱 c bd i arg2 harg2 arg3 harg3 arg4 harg4 arg5 harg5 arg6 harg6 arg7 harg7 arg8 harg8 arg9 harg9 arg10 harg10 arg11 harg11 arg12 harg12 X2 X3 X4 ⟨n, hn⟩
      rw [show (⟨n, hn⟩ : Fin k0_t1_loop.trips).val + 1 = n + 1 from rfl] at e
      rw [e]
      constructor
      · intro p hp
        rcases List.mem_append.mp hp with hp | hp
        · rw [show (tripL_k0_t1 (F := Ideal) 𝒱 c bd i arg2 harg2 arg3 harg3 arg4 harg4 arg5 harg5 arg6 harg6 arg7 harg7 arg8 harg8 arg9 harg9 arg10 harg10 arg11 harg11 arg12 harg12 X2 X3 X4 ⟨n, hn⟩).1 = _ from trip_scales 𝒱 c bd i arg2 harg2 arg3 harg3 arg4 harg4 arg5 harg5 arg6 harg6 arg7 harg7 arg8 harg8 arg9 harg9 arg10 harg10 arg11 harg11 arg12 harg12 X2 X3 X4 ⟨n, hn⟩, List.mem_singleton] at hp
          subst hp
          exact fun x => sPiece_eq arg2 arg3 arg4 X2 X3 X4 x0 h2 x1 h3 x2 h4 _ x
        · exact ih.1 p hp
      · intro p hp
        rcases List.mem_append.mp hp with hp | hp
        · rw [show (tripL_k0_t1 (F := Ideal) 𝒱 c bd i arg2 harg2 arg3 harg3 arg4 harg4 arg5 harg5 arg6 harg6 arg7 harg7 arg8 harg8 arg9 harg9 arg10 harg10 arg11 harg11 arg12 harg12 X2 X3 X4 ⟨n, hn⟩).2 = _ from trip_tiles 𝒱 c bd i arg2 harg2 arg3 harg3 arg4 harg4 arg5 harg5 arg6 harg6 arg7 harg7 arg8 harg8 arg9 harg9 arg10 harg10 arg11 harg11 arg12 harg12 X2 X3 X4 ⟨n, hn⟩] at hp
          obtain ⟨t, -, rfl⟩ := List.mem_map.mp hp
          exact fun x => hPiece_eq arg2 arg3 arg4 X2 X3 X4 x0 h2 x1 h3 x2 h4 _ t x
        · exact ih.2 p hp
    · rw [pb_k0_t1.eq_2]
      unfold pb_k0_t1Step
      rw [dif_neg hn]
      exact ih

include h2 h3 h4 in
/-- The loop leaves the specification's scales. -/
theorem loop_scales : View.canon (pb_k0_t1 (F := Ideal) 𝒱 c bd i arg2 harg2 arg3 harg3 arg4 harg4 arg5 harg5 arg6 harg6 arg7 harg7 arg8 harg8 arg9 harg9 arg10 harg10 arg11 harg11 arg12 harg12 X2 X3 X4 (Scf.trips k0_t1_loop.lb k0_t1_loop.ub k0_t1_loop.st)).1 = sArr x0 x1 x2 :=
  funext fun y => View.canon_apply_of_pieces _ _ (pieces_eq 𝒱 c bd i arg2 harg2 arg3 harg3 arg4 harg4 arg5 harg5 arg6 harg6 arg7 harg7 arg8 harg8 arg9 harg9 arg10 harg10 arg11 harg11 arg12 harg12 X2 X3 X4 x0 h2 x1 h3 x2 h4 _).1 y
    (View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 X2 X3 X4 (Scf.trips k0_t1_loop.lb k0_t1_loop.ub k0_t1_loop.st)).1 S1x16x1.size (by sl_kernel_rfl) y)

include h2 h3 h4 in
/-- The loop leaves the specification's modulated rows. -/
theorem loop_tiles : View.canon (pb_k0_t1 (F := Ideal) 𝒱 c bd i arg2 harg2 arg3 harg3 arg4 harg4 arg5 harg5 arg6 harg6 arg7 harg7 arg8 harg8 arg9 harg9 arg10 harg10 arg11 harg11 arg12 harg12 X2 X3 X4 (Scf.trips k0_t1_loop.lb k0_t1_loop.ub k0_t1_loop.st)).2 = hArr x0 x1 x2 :=
  funext fun y => View.canon_apply_of_pieces _ _ (pieces_eq 𝒱 c bd i arg2 harg2 arg3 harg3 arg4 harg4 arg5 harg5 arg6 harg6 arg7 harg7 arg8 harg8 arg9 harg9 arg10 harg10 arg11 harg11 arg12 harg12 X2 X3 X4 x0 h2 x1 h3 x2 h4 _).2 y
    (View.cover_of_tiledL (pb_k0_t1 (F := Ideal) 𝒱 c bd i arg2 harg2 arg3 harg3 arg4 harg4 arg5 harg5 arg6 harg6 arg7 harg7 arg8 harg8 arg9 harg9 arg10 harg10 arg11 harg11 arg12 harg12 X2 X3 X4 (Scf.trips k0_t1_loop.lb k0_t1_loop.ub k0_t1_loop.st)).2 S16x128.size (by sl_kernel_rfl) y)

end

end Cert.KernelIdeal.Trip

end
-- ==== Proof.Block.lean ====
/-
  WHAT ONE GRID POINT LEAVES in its three output blocks, at every index, from its seven input blocks.
-/
module

public import proofs.«01_k».proof.Proof.LoopValue
public import Idealize.ShloMosaic.Lib.Pipeline.ValueKit
public import Idealize.ShloMosaic.Lib.Pointwise

@[expose] public section

set_option maxRecDepth 16384

noncomputable section

namespace Cert.KernelIdeal.Block

open Idealize.ShloMosaic Idealize.ShloMosaic.TcCoe Idealize.ShloMosaic.Tactic
open Cert.KernelIdeal Cert.KernelIdeal.Gen Cert.KernelIdeal.Trip

section
variable (c : Dev nD) (i : grid0.Coords) (arg2 : Memref sig .tc .vmem S1x256x3584 .bf16) (harg2 : arg2.IsWhole) (arg3 : Memref sig .tc .vmem S1x1x3584 .bf16) (harg3 : arg3.IsWhole) (arg4 : Memref sig .tc .vmem S1x1x3584 .bf16) (harg4 : arg4.IsWhole) (arg5 : Memref sig .tc .vmem S1x1x512 .bf16) (harg5 : arg5.IsWhole) (arg6 : Memref sig .tc .vmem S3584x512 .fp8e4m3) (harg6 : arg6.IsWhole) (arg7 : Memref sig .tc .vmem S1x512 .f32) (harg7 : arg7.IsWhole) (arg8 : Memref sig .tc .vmem S1x512 .bf16) (harg8 : arg8.IsWhole) (arg9 : Memref sig .tc .vmem S1x256x512 .bf16) (harg9 : arg9.IsWhole) (arg10 : Memref sig .tc .vmem S1x256x3584 .fp8e4m3) (harg10 : arg10.IsWhole) (arg11 : Memref sig .tc .vmem S1x256x1 .f32) (harg11 : arg11.IsWhole) (arg12 : Memref sig .tc .vmem S256x3584 .f32) (harg12 : arg12.IsWhole)
variable (x0 : Vec Ideal S1x256x3584 .bf16) (x1 : Vec Ideal S1x1x3584 .bf16) (x2 : Vec Ideal S1x1x3584 .bf16)
  (x3 : Vec Ideal S1x1x512 .bf16) (x4 : Vec Ideal S3584x512 .fp8e4m3) (x5 : Vec Ideal S1x512 .f32) (x6 : Vec Ideal S1x512 .bf16)

/-- Two zero offsets, written as a constant function. -/
theorem hz2 : (![0, 0] : Fin 2 → ℕ) = fun _ => 0 := funext fun a => by fin_cases a <;> rfl
/-- Three zero offsets, written as a constant function. -/
theorem hz3 : (![0, 0, 0] : Fin 3 → ℕ) = fun _ => 0 := funext fun a => by fin_cases a <;> rfl

/-- The block of scales. -/
theorem scales_eq : out0_A_9 c i arg2 harg2 arg3 harg3 arg4 harg4 arg5 harg5 arg6 harg6 arg7 harg7 arg8 harg8 arg9 harg9 arg10 harg10 arg11 harg11 arg12 harg12 x0 x1 x2 x3 x4 x5 x6 = sArr x0 x1 x2 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  exact loop_scales _ _ _ _ arg2 harg2 arg3 harg3 arg4 harg4 arg5 harg5 arg6 harg6 arg7 harg7 arg8 harg8 arg9 harg9 arg10 harg10 arg11 harg11 arg12 harg12 _ _ _ x0 (harg2.read_unread x0) x1 (harg3.read_unread x1) x2 (harg4.read_unread x2)

/-- The scales read back whole after the loop. -/
theorem scales_read : arg11.view.readCov (pb_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (Scf.trips k0_t1_loop.lb k0_t1_loop.ub k0_t1_loop.st)).1
      (Rect.unit (s := S1x256x1) ![0, 0, 0] S1x256x1.size inb_S1x256x1_S1x256x1_0_0_0).toLoadRect = sArr x0 x1 x2 := by
  rw [View.readCov_eq_canon_ld _ _ _ (View.cover_of_tiledL (pb_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (Scf.trips k0_t1_loop.lb k0_t1_loop.ub k0_t1_loop.st)).1 S1x16x1.size (by sl_kernel_rfl))]
  rw [View.ld_unit_zero (S := S1x256x1) hz3]
  exact loop_scales _ _ _ _ arg2 harg2 arg3 harg3 arg4 harg4 arg5 harg5 arg6 harg6 arg7 harg7 arg8 harg8 arg9 harg9 arg10 harg10 arg11 harg11 arg12 harg12 _ _ _ x0 (harg2.read_unread x0) x1 (harg3.read_unread x1) x2 (harg4.read_unread x2)

/-- The modulated rows read back whole after the loop. -/
theorem tiles_read : arg12.view.readCov (pb_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (Scf.trips k0_t1_loop.lb k0_t1_loop.ub k0_t1_loop.st)).2
      (Rect.unit (s := S256x3584) ![0, 0] S256x3584.size inb_S256x3584_S256x3584_0_0).toLoadRect = hArr x0 x1 x2 := by
  rw [View.readCov_eq_canon_ld _ _ _ (View.cover_of_tiledL (pb_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (Scf.trips k0_t1_loop.lb k0_t1_loop.ub k0_t1_loop.st)).2 S16x128.size (by sl_kernel_rfl))]
  rw [View.ld_unit_zero (S := S256x3584) hz2]
  exact loop_tiles _ _ _ _ arg2 harg2 arg3 harg3 arg4 harg4 arg5 harg5 arg6 harg6 arg7 harg7 arg8 harg8 arg9 harg9 arg10 harg10 arg11 harg11 arg12 harg12 _ _ _ x0 (harg2.read_unread x0) x1 (harg3.read_unread x1) x2 (harg4.read_unread x2)

/-- The block of codes. -/
theorem codes_eq : out0_A_8 c i arg2 harg2 arg3 harg3 arg4 harg4 arg5 harg5 arg6 harg6 arg7 harg7 arg8 harg8 arg9 harg9 arg10 harg10 arg11 harg11 arg12 harg12 x0 x1 x2 x3 x4 x5 x6 = k0_pay108 (sArr x0 x1 x2) (hArr x0 x1 x2) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  sl_unfold_words
  refine (View.canon_unit_zero (S := S1x256x3584) hz3 _ _).trans ?_
  exact congrArg₂ k0_pay108 (scales_read c i arg2 harg2 arg3 harg3 arg4 harg4 arg5 harg5 arg6 harg6 arg7 harg7 arg8 harg8 arg9 harg9 arg10 harg10 arg11 harg11 arg12 harg12 x0 x1 x2) (tiles_read c i arg2 harg2 arg3 harg3 arg4 harg4 arg5 harg5 arg6 harg6 arg7 harg7 arg8 harg8 arg9 harg9 arg10 harg10 arg11 harg11 arg12 harg12 x0 x1 x2)

/-- The block of the output. -/
theorem y_eq : out0_A_7 c i arg2 harg2 arg3 harg3 arg4 harg4 arg5 harg5 arg6 harg6 arg7 harg7 arg8 harg8 arg9 harg9 arg10 harg10 arg11 harg11 arg12 harg12 x0 x1 x2 x3 x4 x5 x6 = k0_pay1 (k0_pay109 (sArr x0 x1 x2) (hArr x0 x1 x2) x4 x5 x6) (k0_pay110 x3) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  sl_unfold_words
  refine (View.canon_unit_zero (S := S1x256x512) hz3 _ _).trans ?_
  simp only [View.readAt_eq_ld, harg5.read_unread, harg6.read_unread, harg7.read_unread, harg8.read_unread]
  rw [View.ld_unit_zero (S := S1x1x512) hz3, View.ld_unit_zero (S := S3584x512) hz2, View.ld_unit_zero (S := S1x512) hz2, View.ld_unit_zero (S := S1x512) hz2]
  exact congrArg₂ (fun s h => k0_pay1 (k0_pay109 s h x4 x5 x6) (k0_pay110 x3)) (scales_read c i arg2 harg2 arg3 harg3 arg4 harg4 arg5 harg5 arg6 harg6 arg7 harg7 arg8 harg8 arg9 harg9 arg10 harg10 arg11 harg11 arg12 harg12 x0 x1 x2) (tiles_read c i arg2 harg2 arg3 harg3 arg4 harg4 arg5 harg5 arg6 harg6 arg7 harg7 arg8 harg8 arg9 harg9 arg10 harg10 arg11 harg11 arg12 harg12 x0 x1 x2)

/-- A code of the block is the row specification's. -/
theorem code_apply (ρ : Fin 256) (j : Fin 3584) :
    k0_pay108 (sArr x0 x1 x2) (hArr x0 x1 x2) (ix3 0 ρ j) = Row.code (xRow x0 ρ) (vRow x2) (vRow x1) j := by
  unfold k0_pay108 k0_pay107 k0_pay106
  pointwise
  rfl

/-- An output of the block is the row specification's. -/
theorem y_apply (ρ : Fin 256) (n : Fin 512) :
    k0_pay1 (k0_pay109 (sArr x0 x1 x2) (hArr x0 x1 x2) x4 x5 x6) (k0_pay110 x3) (ix3 0 ρ n) =
      Row.out (xRow x0 ρ) (vRow x2) (vRow x1) (fun k => x4 (ix2 k n)) (x5 (ix2 0 n)) (x6 (ix2 0 n)) (x3 (ix3 0 0 n)) := by
  unfold k0_pay1 k0_pay109 k0_pay110 k0_pay107 k0_pay106
  pointwise
  rfl

end

end Cert.KernelIdeal.Block

end
-- ==== Proof.Result.lean ====
/-
  THE THREE RESULTS as functions of the whole arguments: row by row what `Row` says of one row.
-/
module

public import proofs.«01_k».proof.Proof.Row
public import Idealize.ShloMosaic.Lib.Pointwise

@[expose] public section

noncomputable section

namespace Cert.Row

open Idealize.ShloMosaic

/-- A vector of extended reals. -/
abbrev A1 (a : ℕ) : Type := (⟨1, ![a]⟩ : Shape).Idx → EReal
/-- A matrix of extended reals. -/
abbrev A2 (a b : ℕ) : Type := (⟨2, ![a, b]⟩ : Shape).Idx → EReal
/-- A rank-three array of extended reals. -/
abbrev A3 (a b c : ℕ) : Type := (⟨3, ![a, b, c]⟩ : Shape).Idx → EReal

/-- Token `s` of batch `b`. -/
def token (x : A3 2 4096 3584) (b : Fin 2) (s : Fin 4096) (j : Fin 3584) : EReal := x (ix3 b s j)

/-- The modulation vector of batch `b`. -/
def batch (v : A2 2 3584) (b : Fin 2) (j : Fin 3584) : EReal := v (ix2 b j)

/-- The scale of every token. -/
def scales (x : A3 2 4096 3584) (sh sc : A2 2 3584) : A3 2 4096 1 := fun i =>
  kScale (amax (token x (i 0) (i 1)) (batch sc (i 0)) (batch sh (i 0)))

/-- The codes of every token. -/
def codes (x : A3 2 4096 3584) (sh sc : A2 2 3584) : A3 2 4096 3584 := fun i =>
  code (token x (i 0) (i 1)) (batch sc (i 0)) (batch sh (i 0)) (i 2)

/-- The gated projection of every token. -/
def outs (x : A3 2 4096 3584) (sh sc : A2 2 3584) (g : A2 2 512) (w : A2 3584 512) (ws b : A1 512) : A3 2 4096 512 := fun i =>
  out (token x (i 0) (i 1)) (batch sc (i 0)) (batch sh (i 0)) (fun k => w (ix2 k (i 2))) (ws (ix1 (i 2))) (b (ix1 (i 2)))
    (g (ix2 (i 0) (i 2)))

end Cert.Row

end
-- ==== Proof.Arrays.lean ====
/-
  THE KERNEL'S THREE RESULT ARRAYS after the grid: block by block what `Block` says, so the three results of `Result`.
-/
module

public import proofs.«01_k».proof.Proof.Block
public import proofs.«01_k».proof.Proof.Result
public import proofs.«01_k».proof.Proof.Gen.KernelIdeal.Value

@[expose] public section

set_option maxRecDepth 16384

noncomputable section

namespace Cert.KernelIdeal.Arrays

open Idealize.ShloMosaic Idealize.ShloMosaic.TcCoe Idealize.ShloMosaic.Tactic
open Cert.KernelIdeal Cert.KernelIdeal.Gen Cert.KernelIdeal.Trip Cert.KernelIdeal.Block

variable (m : (ℓ : Loc nD τ sig) → Buf (Elt Ideal) ℓ) (c : Dev nD)

/-- The activations on core `c`, as the kernel is given them. -/
abbrev ax : Row.A3 2 4096 3584 := m ((c : Thread nD τ).loc main_arg0)
/-- The shift, as the kernel is given it. -/
abbrev ash : Row.A2 2 3584 := m ((c : Thread nD τ).loc main_arg1)
/-- The scale, as the kernel is given it. -/
abbrev asc : Row.A2 2 3584 := m ((c : Thread nD τ).loc main_arg2)
/-- The gate, as the kernel is given it. -/
abbrev ag : Row.A2 2 512 := m ((c : Thread nD τ).loc main_arg3)
/-- The weight's codes, as the kernel is given them. -/
abbrev aw : Row.A2 3584 512 := m ((c : Thread nD τ).loc main_arg4)
/-- The weight's scales, as the kernel is given them. -/
abbrev aws : Row.A1 512 := m ((c : Thread nD τ).loc main_arg5)
/-- The bias, as the kernel is given it. -/
abbrev ab : Row.A1 512 := m ((c : Thread nD τ).loc main_arg6)

/-- What the host leaves in the reshaped shift, … -/
theorem V_v0 (b : Fin 2) (j : Fin 3584) : V m c main_v0 (ix3 b 0 j) = ash m c (ix2 b j) := by
  unfold_abbrev_sides
  after_results
  pointwise
/-- … scale, … -/
theorem V_v1 (b : Fin 2) (j : Fin 3584) : V m c main_v1 (ix3 b 0 j) = asc m c (ix2 b j) := by
  unfold_abbrev_sides
  after_results
  pointwise
/-- … gate, … -/
theorem V_v2 (b : Fin 2) (j : Fin 512) : V m c main_v2 (ix3 b 0 j) = ag m c (ix2 b j) := by
  unfold_abbrev_sides
  after_results
  pointwise
/-- … column scales … -/
theorem V_v3 (j : Fin 512) : V m c main_v3 (ix2 0 j) = aws m c (ix1 j) := by
  unfold_abbrev_sides
  after_results
  pointwise
/-- … and bias. -/
theorem V_v4 (j : Fin 512) : V m c main_v4 (ix2 0 j) = ab m c (ix1 j) := by
  unfold_abbrev_sides
  after_results
  pointwise

/-- The batch of a grid point. -/
def bOf (t : Fin cfg0.N) : Fin 2 := grid0.coords t 0
/-- The token of a grid point's row. -/
def sOf (t : Fin cfg0.N) (ρ : Fin 256) : Fin 4096 :=
  ⟨(grid0.coords t 1).val * 256 + ρ.val, by have h : (grid0.coords t 1).val < 16 := (grid0.coords t 1).isLt; omega⟩

/-! Which block of its array each window holds at a grid point. -/

/-- The block of `x` at a grid point: the point's batch entry and its run of 256 tokens. -/
theorem e0 : ∀ t : Fin cfg0.N, win0_0.index t = ![(grid0.coords t 0).val, (grid0.coords t 1).val, 0] := (by decide +kernel : ∀ t : Fin grid0.N, _)
/-- The block of the shift at a grid point: the point's batch entry. -/
theorem e1 : ∀ t : Fin cfg0.N, win0_1.index t = ![(grid0.coords t 0).val, 0, 0] := (by decide +kernel : ∀ t : Fin grid0.N, _)
/-- The block of the scale at a grid point: the point's batch entry. -/
theorem e2 : ∀ t : Fin cfg0.N, win0_2.index t = ![(grid0.coords t 0).val, 0, 0] := (by decide +kernel : ∀ t : Fin grid0.N, _)
/-- The block of the gate at a grid point: the point's batch entry. -/
theorem e3 : ∀ t : Fin cfg0.N, win0_3.index t = ![(grid0.coords t 0).val, 0, 0] := (by decide +kernel : ∀ t : Fin grid0.N, _)
/-- The block of the weight's codes: the whole array at every point. -/
theorem e4 : ∀ t : Fin cfg0.N, win0_4.index t = ![0, 0] := (by decide +kernel : ∀ t : Fin grid0.N, _)
/-- The block of the weight's scales: the whole array at every point. -/
theorem e5 : ∀ t : Fin cfg0.N, win0_5.index t = ![0, 0] := (by decide +kernel : ∀ t : Fin grid0.N, _)
/-- The block of the bias: the whole array at every point. -/
theorem e6 : ∀ t : Fin cfg0.N, win0_6.index t = ![0, 0] := (by decide +kernel : ∀ t : Fin grid0.N, _)
/-- The block of the output at a grid point: the point's batch entry and its run of 256 tokens. -/
theorem e7 : ∀ t : Fin cfg0.N, win0_7.index t = ![(grid0.coords t 0).val, (grid0.coords t 1).val, 0] := (by decide +kernel : ∀ t : Fin grid0.N, _)
/-- The block of the codes at a grid point: the point's batch entry and its run of 256 tokens. -/
theorem e8 : ∀ t : Fin cfg0.N, win0_8.index t = ![(grid0.coords t 0).val, (grid0.coords t 1).val, 0] := (by decide +kernel : ∀ t : Fin grid0.N, _)
/-- The block of the scales at a grid point: the point's batch entry and its run of 256 tokens. -/
theorem e9 : ∀ t : Fin cfg0.N, win0_9.index t = ![(grid0.coords t 0).val, (grid0.coords t 1).val, 0] := (by decide +kernel : ∀ t : Fin grid0.N, _)

/-- Where window 0's block sits in its array. -/
theorem emb0 (t : Fin cfg0.N) (ρ : Fin 256) (j : Fin 3584) : (win0_0.blk t).view.emb (ix3 0 ρ j : S1x256x3584.Idx) = (ix3 (bOf t) (sOf t ρ) j : S2x4096x3584.Idx) := by
  blk_ext [e0, bOf, sOf]

/-- The tokens of a grid point. -/
theorem blk0 (t : Fin cfg0.N) (ρ : Fin 256) (j : Fin 3584) : iblk m c 0 t (ix3 0 ρ j : S1x256x3584.Idx) = Row.token (ax m c) (bOf t) (sOf t ρ) j := by
  blk_simp [iblk]
  exact (congrArg (V m c main_arg0) (emb0 t ρ j)).trans (congrFun (V_main_arg0 m c) _)

/-- Where window 1's block sits in its array. -/
theorem emb1 (t : Fin cfg0.N) (j : Fin 3584) : (win0_1.blk t).view.emb (ix3 0 0 j : S1x1x3584.Idx) = (ix3 (bOf t) 0 j : S2x1x3584.Idx) := by
  blk_ext [e1, bOf, sOf]

/-- Its shift. -/
theorem blk1 (t : Fin cfg0.N) (j : Fin 3584) : iblk m c 1 t (ix3 0 0 j : S1x1x3584.Idx) = Row.batch (ash m c) (bOf t) j := by
  blk_simp [iblk]
  exact (congrArg (V m c main_v0) (emb1 t j)).trans (V_v0 m c _ _)

/-- Where window 2's block sits in its array. -/
theorem emb2 (t : Fin cfg0.N) (j : Fin 3584) : (win0_2.blk t).view.emb (ix3 0 0 j : S1x1x3584.Idx) = (ix3 (bOf t) 0 j : S2x1x3584.Idx) := by
  blk_ext [e2, bOf, sOf]

/-- Its scale. -/
theorem blk2 (t : Fin cfg0.N) (j : Fin 3584) : iblk m c 2 t (ix3 0 0 j : S1x1x3584.Idx) = Row.batch (asc m c) (bOf t) j := by
  blk_simp [iblk]
  exact (congrArg (V m c main_v1) (emb2 t j)).trans (V_v1 m c _ _)

/-- Where window 3's block sits in its array. -/
theorem emb3 (t : Fin cfg0.N) (j : Fin 512) : (win0_3.blk t).view.emb (ix3 0 0 j : S1x1x512.Idx) = (ix3 (bOf t) 0 j : S2x1x512.Idx) := by
  blk_ext [e3, bOf, sOf]

/-- Its gate. -/
theorem blk3 (t : Fin cfg0.N) (j : Fin 512) : iblk m c 3 t (ix3 0 0 j : S1x1x512.Idx) = ag m c (ix2 (bOf t) j) := by
  blk_simp [iblk]
  exact (congrArg (V m c main_v2) (emb3 t j)).trans (V_v2 m c _ _)

/-- Where window 4's block sits in its array. -/
theorem emb4 (t : Fin cfg0.N) (k : Fin 3584) (j : Fin 512) : (win0_4.blk t).view.emb (ix2 k j : S3584x512.Idx) = (ix2 k j : S3584x512.Idx) := by
  blk_ext [e4, bOf, sOf]

/-- The weights. -/
theorem blk4 (t : Fin cfg0.N) (k : Fin 3584) (j : Fin 512) : iblk m c 4 t (ix2 k j : S3584x512.Idx) = aw m c (ix2 k j) := by
  blk_simp [iblk]
  exact (congrArg (V m c main_arg4) (emb4 t k j)).trans (congrFun (V_main_arg4 m c) _)

/-- Where window 5's block sits in its array. -/
theorem emb5 (t : Fin cfg0.N) (j : Fin 512) : (win0_5.blk t).view.emb (ix2 0 j : S1x512.Idx) = (ix2 0 j : S1x512.Idx) := by
  blk_ext [e5, bOf, sOf]

/-- The column scales. -/
theorem blk5 (t : Fin cfg0.N) (j : Fin 512) : iblk m c 5 t (ix2 0 j : S1x512.Idx) = aws m c (ix1 j) := by
  blk_simp [iblk]
  exact (congrArg (V m c main_v3) (emb5 t j)).trans (V_v3 m c _)

/-- Where window 6's block sits in its array. -/
theorem emb6 (t : Fin cfg0.N) (j : Fin 512) : (win0_6.blk t).view.emb (ix2 0 j : S1x512.Idx) = (ix2 0 j : S1x512.Idx) := by
  blk_ext [e6, bOf, sOf]

/-- The bias. -/
theorem blk6 (t : Fin cfg0.N) (j : Fin 512) : iblk m c 6 t (ix2 0 j : S1x512.Idx) = ab m c (ix1 j) := by
  blk_simp [iblk]
  exact (congrArg (V m c main_v4) (emb6 t j)).trans (V_v4 m c _)

/-- Where window 7's block sits in its array. -/
theorem emb7 (t : Fin cfg0.N) (ρ : Fin 256) (j : Fin 512) : (win0_7.blk t).view.emb (ix3 0 ρ j : S1x256x512.Idx) = (ix3 (bOf t) (sOf t ρ) j : S2x4096x512.Idx) := by
  blk_ext [e7, bOf, sOf]

/-- Where window 8's block sits in its array. -/
theorem emb8 (t : Fin cfg0.N) (ρ : Fin 256) (j : Fin 3584) : (win0_8.blk t).view.emb (ix3 0 ρ j : S1x256x3584.Idx) = (ix3 (bOf t) (sOf t ρ) j : S2x4096x3584.Idx) := by
  blk_ext [e8, bOf, sOf]

/-- Where window 9's block sits in its array. -/
theorem emb9 (t : Fin cfg0.N) (ρ : Fin 256) : (win0_9.blk t).view.emb (ix3 0 ρ 0 : S1x256x1.Idx) = (ix3 (bOf t) (sOf t ρ) 0 : S2x4096x1.Idx) := by
  blk_ext [e9, bOf, sOf]

/-- A row of a grid point's block of `x` is a token of `x`. -/
theorem row_x (t : Fin cfg0.N) (ρ : Fin 256) : xRow (iblk m c 0 t) ρ = Row.token (ax m c) (bOf t) (sOf t ρ) := funext (blk0 m c t ρ)
/-- A grid point's block of the shift is its batch entry's shift. -/
theorem row_sh (t : Fin cfg0.N) : vRow (iblk m c 1 t) = Row.batch (ash m c) (bOf t) := funext (blk1 m c t)
/-- A grid point's block of the scale is its batch entry's scale. -/
theorem row_sc (t : Fin cfg0.N) : vRow (iblk m c 2 t) = Row.batch (asc m c) (bOf t) := funext (blk2 m c t)

/-- What a grid point leaves of the scales. -/
theorem left9 (t : Fin cfg0.N) (ρ : Fin 256) :
    (outsAt0 m c t).2.2 (ix3 0 ρ 0) = Row.scales (ax m c) (ash m c) (asc m c) (ix3 (bOf t) (sOf t ρ) 0) := by
  unfold outsAt0
  dsimp only
  rw [scales_eq]
  show Row.kScale (Row.amax (xRow (iblk m c 0 t) ρ) (vRow (iblk m c 2 t)) (vRow (iblk m c 1 t))) = _
  rw [row_x, row_sh, row_sc]
  rfl

/-- What a grid point leaves of the codes. -/
theorem left8 (t : Fin cfg0.N) (ρ : Fin 256) (j : Fin 3584) :
    (outsAt0 m c t).2.1 (ix3 0 ρ j) = Row.codes (ax m c) (ash m c) (asc m c) (ix3 (bOf t) (sOf t ρ) j) := by
  unfold outsAt0
  dsimp only
  rw [codes_eq]
  refine (code_apply _ _ _ ρ j).trans ?_
  rw [row_x, row_sh, row_sc]
  rfl

/-- What a grid point leaves of the output. -/
theorem left7 (t : Fin cfg0.N) (ρ : Fin 256) (n : Fin 512) :
    (outsAt0 m c t).1 (ix3 0 ρ n) =
      Row.outs (ax m c) (ash m c) (asc m c) (ag m c) (aw m c) (aws m c) (ab m c) (ix3 (bOf t) (sOf t ρ) n) := by
  unfold outsAt0
  dsimp only
  rw [y_eq]
  refine (y_apply _ _ _ _ _ _ _ ρ n).trans ?_
  rw [row_x, row_sh, row_sc, blk5, blk6, blk3, show (fun k => iblk m c 4 t (ix2 k n)) = fun k => aw m c (ix2 k n) from funext fun k => blk4 m c t k n]
  rfl

/-- The kernel's scales. -/
theorem scalesA : (dats m 0 c).arrAt 9 cfg0.N = Row.scales (ax m c) (ash m c) (asc m c) := by
  refine (dats m 0 c).arrAt_eq_of_covers 9 _ (by decide +kernel) fun t hf y => ?_
  blk_simp
  rw [after0_9]
  have hy : y = (ix3 (0 : Fin 1) (y 1 : Fin 256) (0 : Fin 1) : S1x256x1.Idx) := funext fun a => match a with
    | ⟨0, _⟩ => Subsingleton.elim (α := Fin 1) _ _
    | ⟨1, _⟩ => rfl
    | ⟨2, _⟩ => Subsingleton.elim (α := Fin 1) _ _
  rw [hy]
  exact (left9 m c t (y 1)).trans (congrArg _ (emb9 t (y 1))).symm

/-- The kernel's codes. -/
theorem codesA : (dats m 0 c).arrAt 8 cfg0.N = Row.codes (ax m c) (ash m c) (asc m c) := by
  refine (dats m 0 c).arrAt_eq_of_covers 8 _ (by decide +kernel) fun t hf y => ?_
  blk_simp
  rw [after0_8]
  have hy : y = (ix3 (0 : Fin 1) (y 1 : Fin 256) (y 2 : Fin 3584) : S1x256x3584.Idx) := funext fun a => match a with
    | ⟨0, _⟩ => Subsingleton.elim (α := Fin 1) _ _
    | ⟨1, _⟩ => rfl
    | ⟨2, _⟩ => rfl
  rw [hy]
  exact (left8 m c t (y 1) (y 2)).trans (congrArg _ (emb8 t (y 1) (y 2))).symm

/-- The kernel's output. -/
theorem outsA : (dats m 0 c).arrAt 7 cfg0.N = Row.outs (ax m c) (ash m c) (asc m c) (ag m c) (aw m c) (aws m c) (ab m c) := by
  refine (dats m 0 c).arrAt_eq_of_covers 7 _ (by decide +kernel) fun t hf y => ?_
  blk_simp
  rw [after0_7]
  have hy : y = (ix3 (0 : Fin 1) (y 1 : Fin 256) (y 2 : Fin 512) : S1x256x512.Idx) := funext fun a => match a with
    | ⟨0, _⟩ => Subsingleton.elim (α := Fin 1) _ _
    | ⟨1, _⟩ => rfl
    | ⟨2, _⟩ => rfl
  rw [hy]
  exact (left7 m c t (y 1) (y 2)).trans (congrArg _ (emb7 t (y 1) (y 2))).symm

end Cert.KernelIdeal.Arrays

end
-- ==== Proof.Reference.lean ====
/-
  THE REFERENCE'S THREE RESULTS at every index, in the words of one row; and, where every row's scale is a power of two
  that the format holds, that they are the kernel's.
-/
module

public import proofs.«01_k».proof.Proof.Result
public import proofs.«01_k».proof.Proof.Gen.ReferenceIdeal.Value
public import Idealize.ShloMosaic.Lib.Pointwise

@[expose] public section

set_option maxRecDepth 16384

noncomputable section

namespace Cert.ReferenceIdeal.Result

open Idealize.ShloMosaic Idealize.ShloMosaic.TcCoe Idealize.ShloMosaic.Tactic
open Cert.ReferenceIdeal Cert.ReferenceIdeal.Gen Cert.ReferenceIdeal.Value

/-- Dividing by the row's length is multiplying by its reciprocal. -/
theorem div_len (a : EReal) : Ideal.div a (Ideal.ofBits .f32 0x45600000#32) = a * Row.inv := by
  have h : Ideal.ofBits .f32 0x45600000#32 = ((3584 : ℝ) : EReal) := by
    refine (Row.ofBits_normal _ 138 6291456 (by decide) (by decide) (by decide) (by decide) (by decide)).trans
      (congrArg (fun r : ℝ => (r : EReal)) ?_)
    norm_num
  rw [h, Ideal.div_coe (by norm_num)]
  rfl

/-- The named constant is the logarithm of two. -/
theorem named_ln2 : (Named.named κ "ln_2" 0x3F317218#32 : Ideal .f32) = ((Real.log 2 : ℝ) : EReal) :=
  IdealRules.named_const.ideal_named_scalar _ _ _ _ rfl

section
variable (x : Row.A3 2 4096 3584) (sh sc : Row.A2 2 3584)

/-- The modulated rows. -/
theorem h_apply (b : Fin 2) (s : Fin 4096) (j : Fin 3584) :
    k0_pay1 (F := Ideal) x sc sh (ix3 b s j) = Row.h (Row.token x b s) (Row.batch sc b) (Row.batch sh b) j := by
  unfold k0_pay1
  pointwise
  simp only [div_len]
  unfold Row.h
  rw [Row.one_eq, EReal.coe_one]
  rfl

/-- Their largest magnitudes. -/
theorem amax_apply (b : Fin 2) (s : Fin 4096) :
    k0_pay2 (F := Ideal) x sc sh (ix3 b s 0) = Row.amax (Row.token x b s) (Row.batch sc b) (Row.batch sh b) := by
  unfold k0_pay2
  pointwise
  simp only [h_apply]
  rfl
end

/-- The exponent's choice, at an index. -/
theorem pay5_apply (u v w : Vec Ideal S2x4096x1 .f32) (i : S2x4096x1.Idx) :
    k0_pay5 (F := Ideal) u v w i = Scalar.select (Ideal.cmp .oeq (u i) (Ideal.ofBits .f32 0x00000000#32)) (Ideal.ofBits .f32 0x00000000#32) (max (v i) (w i)) := rfl

/-- The exponent before the choice, of any magnitudes and constants, at an index. -/
theorem floor_apply (A : FVec Ideal S2x4096x1 .f32) (p q r : Ideal .f32) (i : S2x4096x1.Idx) :
    addf (floor (divf (log (mulf A (broadcast S2x4096x1 p))) (broadcast S2x4096x1 q))) (broadcast S2x4096x1 r) i =
      Ideal.liftRound Int.floor (Ideal.div (Ideal.log (A i * p)) q) + r := rfl

/-- The exponent before the choice, at an index. -/
theorem pay3_apply (x : Row.A3 2 4096 3584) (sh sc : Row.A2 2 3584) (i : S2x4096x1.Idx) :
    k0_pay3 (F := Ideal) x sc sh i =
      Ideal.liftRound Int.floor (Ideal.div (Ideal.log (k0_pay2 (F := Ideal) x sc sh i * Ideal.ofBits .f32 0x3B124925#32)) (Named.named κ "ln_2" 0x3F317218#32 : Ideal .f32)) + Ideal.ofBits .f32 0x3F800000#32 := by
  unfold k0_pay3
  exact floor_apply (k0_pay2 (F := Ideal) x sc sh) _ _ _ i

/-- The least exponent, at an index. -/
theorem pay4_apply (i : S2x4096x1.Idx) : k0_pay4 (F := Ideal) i = Ideal.ofBits .f32 0xC2FC0000#32 := rfl

/-- The exponents. -/
theorem rExp_apply (x : Row.A3 2 4096 3584) (sh sc : Row.A2 2 3584) (b : Fin 2) (s : Fin 4096) :
    k0_pay5 (F := Ideal) (k0_pay2 x sc sh) (k0_pay3 x sc sh) k0_pay4 (ix3 b s 0) =
      Row.rExp (Row.amax (Row.token x b s) (Row.batch sc b) (Row.batch sh b)) := by
  rw [pay5_apply, pay3_apply, pay4_apply, amax_apply, named_ln2, show Ideal.ofBits .f32 0x3F800000#32 = 1 from Row.one_eq.trans EReal.coe_one, Ideal.ofBits_zero_f32]
  rfl

/-- The scale, at an index. -/
theorem pay6_apply (u v w : Vec Ideal S2x4096x1 .f32) (i : S2x4096x1.Idx) :
    k0_pay6 (F := Ideal) u v w i = Ideal.exp2 (k0_pay5 (F := Ideal) u v w i) := rfl

/-- The codes, at an index. -/
theorem code_apply (h : Vec Ideal S2x4096x3584 .f32) (u v w : Vec Ideal S2x4096x1 .f32) (b : Fin 2) (s : Fin 4096) (j : Fin 3584) :
    k0_pay7 (F := Ideal) h u v w (ix3 b s j) = Row.clip (h (ix3 b s j) * Ideal.exp2 (0 - k0_pay5 (F := Ideal) u v w (ix3 b s 0))) := by
  unfold k0_pay7
  pointwise
  simp only [zero_sub]
  rfl

/-- The output, at an index. -/
theorem out_apply (h : Vec Ideal S2x4096x3584 .f32) (u v w : Vec Ideal S2x4096x1 .f32) (W : Vec Ideal S3584x512 .fp8e4m3)
    (ws : Vec Ideal S512 .f32) (bb : Vec Ideal S512 .bf16) (g : Vec Ideal S2x512 .bf16) (b : Fin 2) (s : Fin 4096) (n : Fin 512) :
    k0_pay8 (F := Ideal) h u v w W ws bb g (ix3 b s n) =
      ((∑ k : Fin 3584, k0_pay7 (F := Ideal) h u v w (ix3 b s k) * W (ix2 k n)) * Ideal.exp2 (k0_pay5 (F := Ideal) u v w (ix3 b s 0)) *
        ws (ix1 n) + bb (ix1 n)) * g (ix2 b n) := by
  unfold k0_pay8 k0_pay6
  pointwise
  rfl

section
variable (x : Row.A3 2 4096 3584) (sh sc : Row.A2 2 3584) (g : Row.A2 2 512) (w : Row.A2 3584 512) (ws bb : Row.A1 512)

/-- A load of a whole block is the block. -/
theorem ld_x (x : Vec Ideal S2x4096x3584 .bf16) : View.ld x r0_0 = x := View.ld_unit_zero (S := S2x4096x3584) hz0 _ x
/-- Loading a whole row-vector array gives the array. -/
theorem ld_v (v : Vec Ideal S2x3584 .bf16) : View.ld v r0_1 = v := View.ld_unit_zero (S := S2x3584) hz1 _ v

/-- The rows `h` from all seven arguments are those from the three arguments they read; … -/
theorem pay9_eq : k0_pay9 (F := Ideal) x sh sc g w ws bb = k0_pay1 (F := Ideal) x sc sh := by
  unfold k0_pay9
  rw [ld_x, ld_v, ld_v]

/-- … so are the rows' maxima, … -/
theorem pay10_eq : k0_pay10 (F := Ideal) x sh sc g w ws bb = k0_pay2 (F := Ideal) x sc sh := by
  unfold k0_pay10
  rw [ld_x, ld_v, ld_v]

/-- … the exponents before they are kept above the least, … -/
theorem pay11_eq : k0_pay11 (F := Ideal) x sh sc g w ws bb = k0_pay3 (F := Ideal) x sc sh := by
  unfold k0_pay11
  rw [ld_x, ld_v, ld_v]

/-- … and the least exponent. -/
theorem pay12_eq : k0_pay12 (F := Ideal) x sh sc g w ws bb = k0_pay4 (F := Ideal) := rfl

variable (hsc : ∀ b j, max (Row.batch sc b j) (-(Row.batch sc b j)) ≤ Row.vmax)
  (hsh : ∀ b j, max (Row.batch sh b j) (-(Row.batch sh b j)) ≤ Row.vmax)

include hsc hsh in
/-- The reference's scale of a token is the kernel's. -/
theorem scale_at (b : Fin 2) (s : Fin 4096) :
    Ideal.exp2 (k0_pay5 (F := Ideal) (k0_pay2 x sc sh) (k0_pay3 x sc sh) k0_pay4 (ix3 b s 0)) =
      Row.kScale (Row.amax (Row.token x b s) (Row.batch sc b) (Row.batch sh b)) := by
  obtain ⟨h0, h1⟩ := Row.amax_bound (Row.token x b s) (Row.batch sc b) (Row.batch sh b) (hsc b) (hsh b)
  rw [rExp_apply, Row.kScale_eq _ h0 h1]

include hsc hsh in
/-- The reference's code is the kernel's. -/
theorem code_at (b : Fin 2) (s : Fin 4096) (j : Fin 3584) :
    k0_pay7 (F := Ideal) (k0_pay1 x sc sh) (k0_pay2 x sc sh) (k0_pay3 x sc sh) k0_pay4 (ix3 b s j) =
      Row.code (Row.token x b s) (Row.batch sc b) (Row.batch sh b) j := by
  obtain ⟨h0, h1⟩ := Row.amax_bound (Row.token x b s) (Row.batch sc b) (Row.batch sh b) (hsc b) (hsh b)
  rw [code_apply, rExp_apply, h_apply, Row.code, Row.inv_kScale_eq _ h0 h1]

include hsc hsh in
/-- The reference's scales are the kernel's. -/
theorem scales_eq : G9 (F := Ideal) x sh sc g w ws bb = Row.scales x sh sc := by
  show k0_pay6 _ _ _ = _
  rw [pay10_eq, pay11_eq, pay12_eq]
  refine funext fun i => ?_
  obtain ⟨b, s, rfl⟩ : ∃ (b : Fin 2) (s : Fin 4096), i = ix3 b s 0 := ⟨i 0, i 1, funext fun a => match a with
      | ⟨0, _⟩ => rfl
      | ⟨1, _⟩ => rfl
      | ⟨2, _⟩ => Subsingleton.elim (α := Fin 1) _ _⟩
  exact (pay6_apply _ _ _ _).trans (scale_at x sh sc hsc hsh b s)

include hsc hsh in
/-- The reference's codes are the kernel's. -/
theorem codes_eq : G8 (F := Ideal) x sh sc g w ws bb = Row.codes x sh sc := by
  show k0_pay7 _ _ _ _ = _
  rw [pay9_eq, pay10_eq, pay11_eq, pay12_eq]
  refine funext fun i => ?_
  obtain ⟨b, s, n, rfl⟩ : ∃ (b : Fin 2) (s : Fin 4096) (n : Fin 3584), i = ix3 b s n := ⟨i 0, i 1, i 2, eq_ix3 i⟩
  exact code_at x sh sc hsc hsh b s n

include hsc hsh in
/-- The reference's output is the kernel's. -/
theorem outs_eq : G7 (F := Ideal) x sh sc g w ws bb = Row.outs x sh sc g w ws bb := by
  show k0_pay8 _ _ _ _ _ _ _ _ = _
  rw [pay9_eq, pay10_eq, pay11_eq, pay12_eq]
  refine funext fun i => ?_
  obtain ⟨b, s, n, rfl⟩ : ∃ (b : Fin 2) (s : Fin 4096) (n : Fin 512), i = ix3 b s n := ⟨i 0, i 1, i 2, eq_ix3 i⟩
  refine (out_apply _ _ _ _ w ws bb g b s n).trans ?_
  rw [scale_at x sh sc hsc hsh]
  simp only [code_at x sh sc hsc hsh]
  rfl

end

end Cert.ReferenceIdeal.Result

end
-- ==== Proof.Bounds.lean ====
/-
  THE PRECONDITION READ: where it holds, no entry of the shift and of the scale exceeds their format's largest finite value.
-/
module

public import proofs.«01_k».proof.Pre_finite
public import proofs.«01_k».proof.Proof.Gen.Pre_finite
public import proofs.«01_k».proof.Proof.Result
public import Idealize.ShloMosaic.Lib.ReduceAll
public import Idealize.ShloMosaic.Lib.Affine

@[expose] public section

set_option maxRecDepth 16384

noncomputable section

namespace Cert.Bounds

open Idealize.ShloMosaic Cert.Pre_finite

/-- One comparison of the precondition, at an index. -/
theorem bound_at (v : FVec Ideal S2x3584 .bf16) (i : S2x3584.Idx) (hb : FTy.bf16.bits < FTy.f32.bits) (hc)
    (h : cmpf .ole (Host.absf (extf .f32 v hb)) (broadcastInDim S2x3584 ![] hc (constant (F := Ideal) S_ .f32 0x7F7F0000#32)) i = 1#1) :
    max (v i) (-(v i)) ≤ Row.vmax := by
  by_contra hn
  have h' : Ideal.cmp .ole (max (v i) (-(v i))) Row.vmax = 1#1 := h
  rw [Ideal.cmp] at h'
  simp [hn] at h'

/-- A rank-zero array has one index. -/
instance : Subsingleton S_.Idx := ⟨fun a b => funext fun k => k.elim0⟩

/-- The precondition bounds the shift and the scale. -/
theorem bounds (x : FVec Ideal S2x4096x3584 .bf16) (sh sc : FVec Ideal S2x3584 .bf16) (g : FVec Ideal S2x512 .bf16)
    (w : FVec Ideal S3584x512 .fp8e4m3) (ws : FVec Ideal S512 .f32) (b : FVec Ideal S512 .bf16)
    (h : fn (F := Ideal) x sh sc g w ws b = fun _ => 1#1) :
    (∀ i : S2x3584.Idx, max (sc i) (-(sc i)) ≤ Row.vmax) ∧ ∀ i : S2x3584.Idx, max (sh i) (-(sh i)) ≤ Row.vmax := by
  have h0 := congrFun h ix0
  obtain ⟨h1, h2⟩ := IntOp.andi_eq_one.mp h0
  exact ⟨fun i => bound_at sc i _ _ (Host.reduce_andi_all _ _ _ _ _ h2 i), fun i => bound_at sh i _ _ (Host.reduce_andi_all _ _ _ _ _ h1 i)⟩

end Cert.Bounds

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.Pre_finite
public import proofs.«01_k».proof.Proof.Gen.KernelIdeal.Value
public import proofs.«01_k».proof.Proof.Gen.ReferenceIdeal.Value
public import proofs.«01_k».proof.Proof.Arrays
public import proofs.«01_k».proof.Proof.Reference
public import proofs.«01_k».proof.Proof.Bounds
public import Idealize.ShloMosaic.Adequacy
public import Idealize.ShloMosaic.Init

@[expose] public section

noncomputable section

namespace Cert.Proof

open Idealize.ShloMosaic Idealize.SL.Sem Cert.Kernel

/-- The kernel and the reference compute the same three results wherever the shift and the scale are within their
    format's finite range: both leave the three results of `Result`. -/
theorem algebraic : algebraic_KernelIdeal_ReferenceIdeal_pre_finite := by
  intro m g m' g' hpre hargs
  refine ⟨fun c => Row.outs (KernelIdeal.Arrays.ax m c) (KernelIdeal.Arrays.ash m c) (KernelIdeal.Arrays.asc m c)
      (KernelIdeal.Arrays.ag m c) (KernelIdeal.Arrays.aw m c) (KernelIdeal.Arrays.aws m c) (KernelIdeal.Arrays.ab m c),
    fun c => Row.codes (KernelIdeal.Arrays.ax m c) (KernelIdeal.Arrays.ash m c) (KernelIdeal.Arrays.asc m c),
    fun c => Row.scales (KernelIdeal.Arrays.ax m c) (KernelIdeal.Arrays.ash m c) (KernelIdeal.Arrays.asc m c), ?_, ?_⟩
  · refine (θ_run _ _ _).mono ?_ (KernelIdeal.Value.run_blocks m g)
    intro r h c
    obtain ⟨h7, h8, h9, hk⟩ := h c
    exact ⟨h7.trans (KernelIdeal.Arrays.outsA m c), h8.trans (KernelIdeal.Arrays.codesA m c),
      h9.trans (KernelIdeal.Arrays.scalesA m c), hk⟩
  · refine (θ_run _ _ _).mono ?_ (ReferenceIdeal.Value.run m' g')
    intro r h c
    obtain ⟨h7, h8, h9, hk⟩ := h c
    obtain ⟨a0, a1, a2, a3, a4, a5, a6⟩ := hargs c
    obtain ⟨hsc, hsh⟩ := Bounds.bounds _ _ _ _ _ _ _ (hpre c)
    rw [a0, a1, a2, a3, a4, a5, a6] at h7 h8 h9
    exact ⟨h7.trans (ReferenceIdeal.Result.outs_eq _ _ _ _ _ _ _ (fun b j => hsc (ix2 b j)) fun b j => hsh (ix2 b j)),
      h8.trans (ReferenceIdeal.Result.codes_eq _ _ _ _ _ _ _ (fun b j => hsc (ix2 b j)) fun b j => hsh (ix2 b j)),
      h9.trans (ReferenceIdeal.Result.scales_eq _ _ _ _ _ _ _ (fun b j => hsc (ix2 b j)) fun b j => hsh (ix2 b j)), hk⟩

/-- The frames, the named constants and the equality. -/
theorem claim : Cert.Claim := ⟨Cert.Kernel.Gen.facts, Cert.KernelIdeal.Gen.facts, Cert.ReferenceIdeal.Gen.facts, Cert.Reference.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, fun m ρ _ => Cert.Reference.Gen.frame m ρ,
    IdealRules.named_const.statement Cert.KernelIdeal.κ "inv_d" .f32 0x39924925#32 _ rfl,
    IdealRules.named_const.statement Cert.ReferenceIdeal.κ "ln_2" .f32 0x3F317218#32 _ rfl, algebraic⟩

end Cert.Proof

end
